-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logit_inputs [hPre_finite_logit_inputs : Cert.Pre_finite_logit_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logit_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_logit_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_logit_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logit_inputs [hPre_finite_logit_inputs : Cert.Pre_finite_logit_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logit_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_logit_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_logit_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InAb (m : (ℓ : Loc Cert.InAb.nD Cert.InAb.τ Cert.InAb.sig) → Buf (Elt Bits) ℓ) : Prop :=
  True

def Pre_InAbIdeal (m : (ℓ : Loc Cert.InAbIdeal.nD Cert.InAbIdeal.τ Cert.InAbIdeal.sig) → Buf (Elt Ideal) ℓ) : Prop :=
  True

def Pre_InAbRefIdeal (m : (ℓ : Loc Cert.InAbRefIdeal.nD Cert.InAbRefIdeal.τ Cert.InAbRefIdeal.sig) → Buf (Elt Ideal) ℓ) : Prop :=
  True

def Pre_InHy (m : (ℓ : Loc Cert.InHy.nD Cert.InHy.τ Cert.InHy.sig) → Buf (Elt Bits) ℓ) : Prop :=
  True

def Pre_InHyIdeal (m : (ℓ : Loc Cert.InHyIdeal.nD Cert.InHyIdeal.τ Cert.InHyIdeal.sig) → Buf (Elt Ideal) ℓ) : Prop :=
  True

def Pre_InHyRefIdeal (m : (ℓ : Loc Cert.InHyRefIdeal.nD Cert.InHyRefIdeal.τ Cert.InHyRefIdeal.sig) → Buf (Elt Ideal) ℓ) : Prop :=
  True

def Pre_OutHy (m : (ℓ : Loc Cert.OutHy.nD Cert.OutHy.τ Cert.OutHy.sig) → Buf (Elt Bits) ℓ) : Prop :=
  True

def Pre_OutHyIdeal (m : (ℓ : Loc Cert.OutHyIdeal.nD Cert.OutHyIdeal.τ Cert.OutHyIdeal.sig) → Buf (Elt Ideal) ℓ) : Prop :=
  True

def Pre_OutHyRefIdeal (m : (ℓ : Loc Cert.OutHyRefIdeal.nD Cert.OutHyRefIdeal.τ Cert.OutHyRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_HyPre (m : (ℓ : Loc Cert.HyPre.nD Cert.HyPre.τ Cert.HyPre.sig) → Buf (Elt Bits) ℓ) : Prop :=
  True

def Pre_HyPreIdeal (m : (ℓ : Loc Cert.HyPreIdeal.nD Cert.HyPreIdeal.τ Cert.HyPreIdeal.sig) → Buf (Elt Ideal) ℓ) : Prop :=
  True

def Pre_HyPreRefIdeal (m : (ℓ : Loc Cert.HyPreRefIdeal.nD Cert.HyPreRefIdeal.τ Cert.HyPreRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_ctx_inputs [hPre_finite_ctx_inputs : Cert.Pre_finite_ctx_inputs.Facts] (m : (ℓ : Loc Cert.CtxIdeal.nD Cert.CtxIdeal.τ Cert.CtxIdeal.sig) → Buf (Elt Ideal) ℓ) : Prop :=
  ∀ c : Dev Cert.CtxIdeal.nD,
    (Cert.Pre_finite_ctx_inputs.fn (F := Ideal) (m ((c.tc : Thread Cert.CtxIdeal.nD Cert.CtxIdeal.τ).loc Cert.CtxIdeal.main_arg0))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_ctx_inputs [hPre_finite_ctx_inputs : Cert.Pre_finite_ctx_inputs.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_ctx_inputs.fn (F := Ideal) (m ((c.tc : Thread Cert.CtxRefIdeal.nD Cert.CtxRefIdeal.τ).loc Cert.CtxRefIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logit_inputs [hKernelIdeal : Cert.KernelIdeal.Facts] [hPre_finite_logit_inputs : Cert.Pre_finite_logit_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logit_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logit_inputs [hReferenceIdeal : Cert.ReferenceIdeal.Facts] [hPre_finite_logit_inputs : Cert.Pre_finite_logit_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logit_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InAb [hInAb : Cert.InAb.Facts] : Prop :=
  ∀ (m : (ℓ : Loc Cert.InAb.nD Cert.InAb.τ Cert.InAb.sig) → Buf (Elt Bits) ℓ) (g : Dev Cert.InAb.nD → PrngReg), Pre_InAb m →
    θ_run (Cert.InAb.defs (F := Bits)) (onTc (τ := Cert.InAb.τ) (Cert.InAb.main (F := Bits))) ⟨m, fun _ => 0, g⟩ (fun r => (∀ c : Dev Cert.InAb.nD,
      r.2.mem ((c.tc : Thread Cert.InAb.nD Cert.InAb.τ).loc Cert.InAb.main_arg0) = m ((c.tc : Thread Cert.InAb.nD Cert.InAb.τ).loc Cert.InAb.main_arg0)
      ∧ r.2.mem ((c.tc : Thread Cert.InAb.nD Cert.InAb.τ).loc Cert.InAb.main_arg1) = m ((c.tc : Thread Cert.InAb.nD Cert.InAb.τ).loc Cert.InAb.main_arg1)
      ∧ r.2.mem ((c.tc : Thread Cert.InAb.nD Cert.InAb.τ).loc Cert.InAb.main_arg2) = m ((c.tc : Thread Cert.InAb.nD Cert.InAb.τ).loc Cert.InAb.main_arg2)
      ∧ r.2.mem ((c.tc : Thread Cert.InAb.nD Cert.InAb.τ).loc Cert.InAb.main_arg3) = m ((c.tc : Thread Cert.InAb.nD Cert.InAb.τ).loc Cert.InAb.main_arg3))
      ∧ r.2.sem = fun _ => 0)

def quiescent_InAbIdeal [hInAbIdeal : Cert.InAbIdeal.Facts] : Prop :=
  ∀ (m : (ℓ : Loc Cert.InAbIdeal.nD Cert.InAbIdeal.τ Cert.InAbIdeal.sig) → Buf (Elt Ideal) ℓ) (g : Dev Cert.InAbIdeal.nD → PrngReg), Pre_InAbIdeal m →
    θ_run (Cert.InAbIdeal.defs (F := Ideal)) (onTc (τ := Cert.InAbIdeal.τ) (Cert.InAbIdeal.main (F := Ideal))) ⟨m, fun _ => 0, g⟩ (fun r => (∀ c : Dev Cert.InAbIdeal.nD,
      r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
      ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1)
      ∧ r.2.mem ((c.tc : Thread Cert.InAbIdeal.nD Cert.InAbIdeal.τ).loc Cert.InAbIdeal.main_arg2) = m ((c.tc : Thread Cert.InAbIdeal.nD Cert.InAbIdeal.τ).loc Cert.InAbIdeal.main_arg2)
      ∧ r.2.mem ((c.tc : Thread Cert.InAbIdeal.nD Cert.InAbIdeal.τ).loc Cert.InAbIdeal.main_arg3) = m ((c.tc : Thread Cert.InAbIdeal.nD Cert.InAbIdeal.τ).loc Cert.InAbIdeal.main_arg3))
      ∧ r.2.sem = fun _ => 0)

def quiescent_InAbRefIdeal [hInAbRefIdeal : Cert.InAbRefIdeal.Facts] : Prop :=
  ∀ (m : (ℓ : Loc Cert.InAbRefIdeal.nD Cert.InAbRefIdeal.τ Cert.InAbRefIdeal.sig) → Buf (Elt Ideal) ℓ) (g : Dev Cert.InAbRefIdeal.nD → PrngReg), Pre_InAbRefIdeal m →
    θ_run (Cert.InAbRefIdeal.defs (F := Ideal)) (onTc (τ := Cert.InAbRefIdeal.τ) (Cert.InAbRefIdeal.main (F := Ideal))) ⟨m, fun _ => 0, g⟩ (fun r => (∀ c : Dev Cert.InAbRefIdeal.nD,
      r.2.mem ((c.tc : Thread Cert.InAbRefIdeal.nD Cert.InAbRefIdeal.τ).loc Cert.InAbRefIdeal.main_arg0) = m ((c.tc : Thread Cert.InAbRefIdeal.nD Cert.InAbRefIdeal.τ).loc Cert.InAbRefIdeal.main_arg0)
      ∧ r.2.mem ((c.tc : Thread Cert.InAbRefIdeal.nD Cert.InAbRefIdeal.τ).loc Cert.InAbRefIdeal.main_arg1) = m ((c.tc : Thread Cert.InAbRefIdeal.nD Cert.InAbRefIdeal.τ).loc Cert.InAbRefIdeal.main_arg1)
      ∧ r.2.mem ((c.tc : Thread Cert.InAbRefIdeal.nD Cert.InAbRefIdeal.τ).loc Cert.InAbRefIdeal.main_arg2) = m ((c.tc : Thread Cert.InAbRefIdeal.nD Cert.InAbRefIdeal.τ).loc Cert.InAbRefIdeal.main_arg2)
      ∧ r.2.mem ((c.tc : Thread Cert.InAbRefIdeal.nD Cert.InAbRefIdeal.τ).loc Cert.InAbRefIdeal.main_arg3) = m ((c.tc : Thread Cert.InAbRefIdeal.nD Cert.InAbRefIdeal.τ).loc Cert.InAbRefIdeal.main_arg3))
      ∧ r.2.sem = fun _ => 0)

def quiescent_InHy [hInHy : Cert.InHy.Facts] : Prop :=
  ∀ (m : (ℓ : Loc Cert.InHy.nD Cert.InHy.τ Cert.InHy.sig) → Buf (Elt Bits) ℓ) (g : Dev Cert.InHy.nD → PrngReg), Pre_InHy m →
    θ_run (Cert.InHy.defs (F := Bits)) (onTc (τ := Cert.InHy.τ) (Cert.InHy.main (F := Bits))) ⟨m, fun _ => 0, g⟩ (fun r => (∀ c : Dev Cert.InHy.nD,
      r.2.mem ((c.tc : Thread Cert.InHy.nD Cert.InHy.τ).loc Cert.InHy.main_arg0) = m ((c.tc : Thread Cert.InHy.nD Cert.InHy.τ).loc Cert.InHy.main_arg0)
      ∧ r.2.mem ((c.tc : Thread Cert.InHy.nD Cert.InHy.τ).loc Cert.InHy.main_arg1) = m ((c.tc : Thread Cert.InHy.nD Cert.InHy.τ).loc Cert.InHy.main_arg1)
      ∧ r.2.mem ((c.tc : Thread Cert.InHy.nD Cert.InHy.τ).loc Cert.InHy.main_arg2) = m ((c.tc : Thread Cert.InHy.nD Cert.InHy.τ).loc Cert.InHy.main_arg2)
      ∧ r.2.mem ((c.tc : Thread Cert.InHy.nD Cert.InHy.τ).loc Cert.InHy.main_arg3) = m ((c.tc : Thread Cert.InHy.nD Cert.InHy.τ).loc Cert.InHy.main_arg3))
      ∧ r.2.sem = fun _ => 0)

def quiescent_InHyIdeal [hInHyIdeal : Cert.InHyIdeal.Facts] : Prop :=
  ∀ (m : (ℓ : Loc Cert.InHyIdeal.nD Cert.InHyIdeal.τ Cert.InHyIdeal.sig) → Buf (Elt Ideal) ℓ) (g : Dev Cert.InHyIdeal.nD → PrngReg), Pre_InHyIdeal m →
    θ_run (Cert.InHyIdeal.defs (F := Ideal)) (onTc (τ := Cert.InHyIdeal.τ) (Cert.InHyIdeal.main (F := Ideal))) ⟨m, fun _ => 0, g⟩ (fun r => (∀ c : Dev Cert.InHyIdeal.nD,
      r.2.mem ((c.tc : Thread Cert.InHyIdeal.nD Cert.InHyIdeal.τ).loc Cert.InHyIdeal.main_arg0) = m ((c.tc : Thread Cert.InHyIdeal.nD Cert.InHyIdeal.τ).loc Cert.InHyIdeal.main_arg0)
      ∧ r.2.mem ((c.tc : Thread Cert.InHyIdeal.nD Cert.InHyIdeal.τ).loc Cert.InHyIdeal.main_arg1) = m ((c.tc : Thread Cert.InHyIdeal.nD Cert.InHyIdeal.τ).loc Cert.InHyIdeal.main_arg1)
      ∧ r.2.mem ((c.tc : Thread Cert.InHyIdeal.nD Cert.InHyIdeal.τ).loc Cert.InHyIdeal.main_arg2) = m ((c.tc : Thread Cert.InHyIdeal.nD Cert.InHyIdeal.τ).loc Cert.InHyIdeal.main_arg2)
      ∧ r.2.mem ((c.tc : Thread Cert.InHyIdeal.nD Cert.InHyIdeal.τ).loc Cert.InHyIdeal.main_arg3) = m ((c.tc : Thread Cert.InHyIdeal.nD Cert.InHyIdeal.τ).loc Cert.InHyIdeal.main_arg3))
      ∧ r.2.sem = fun _ => 0)

def quiescent_InHyRefIdeal [hInHyRefIdeal : Cert.InHyRefIdeal.Facts] : Prop :=
  ∀ (m : (ℓ : Loc Cert.InHyRefIdeal.nD Cert.InHyRefIdeal.τ Cert.InHyRefIdeal.sig) → Buf (Elt Ideal) ℓ) (g : Dev Cert.InHyRefIdeal.nD → PrngReg), Pre_InHyRefIdeal m →
    θ_run (Cert.InHyRefIdeal.defs (F := Ideal)) (onTc (τ := Cert.InHyRefIdeal.τ) (Cert.InHyRefIdeal.main (F := Ideal))) ⟨m, fun _ => 0, g⟩ (fun r => (∀ c : Dev Cert.InHyRefIdeal.nD,
      r.2.mem ((c.tc : Thread Cert.InHyRefIdeal.nD Cert.InHyRefIdeal.τ).loc Cert.InHyRefIdeal.main_arg0) = m ((c.tc : Thread Cert.InHyRefIdeal.nD Cert.InHyRefIdeal.τ).loc Cert.InHyRefIdeal.main_arg0)
      ∧ r.2.mem ((c.tc : Thread Cert.InHyRefIdeal.nD Cert.InHyRefIdeal.τ).loc Cert.InHyRefIdeal.main_arg1) = m ((c.tc : Thread Cert.InHyRefIdeal.nD Cert.InHyRefIdeal.τ).loc Cert.InHyRefIdeal.main_arg1)
      ∧ r.2.mem ((c.tc : Thread Cert.InHyRefIdeal.nD Cert.InHyRefIdeal.τ).loc Cert.InHyRefIdeal.main_arg2) = m ((c.tc : Thread Cert.InHyRefIdeal.nD Cert.InHyRefIdeal.τ).loc Cert.InHyRefIdeal.main_arg2)
      ∧ r.2.mem ((c.tc : Thread Cert.InHyRefIdeal.nD Cert.InHyRefIdeal.τ).loc Cert.InHyRefIdeal.main_arg3) = m ((c.tc : Thread Cert.InHyRefIdeal.nD Cert.InHyRefIdeal.τ).loc Cert.InHyRefIdeal.main_arg3))
      ∧ r.2.sem = fun _ => 0)

def quiescent_OutHy [hOutHy : Cert.OutHy.Facts] : Prop :=
  ∀ (m : (ℓ : Loc Cert.OutHy.nD Cert.OutHy.τ Cert.OutHy.sig) → Buf (Elt Bits) ℓ) (g : Dev Cert.OutHy.nD → PrngReg), Pre_OutHy m →
    θ_run (Cert.OutHy.defs (F := Bits)) (onTc (τ := Cert.OutHy.τ) (Cert.OutHy.main (F := Bits))) ⟨m, fun _ => 0, g⟩ (fun r => (∀ c : Dev Cert.OutHy.nD,
      r.2.mem ((c.tc : Thread Cert.OutHy.nD Cert.OutHy.τ).loc Cert.OutHy.main_arg0) = m ((c.tc : Thread Cert.OutHy.nD Cert.OutHy.τ).loc Cert.OutHy.main_arg0)
      ∧ r.2.mem ((c.tc : Thread Cert.OutHy.nD Cert.OutHy.τ).loc Cert.OutHy.main_arg1) = m ((c.tc : Thread Cert.OutHy.nD Cert.OutHy.τ).loc Cert.OutHy.main_arg1)
      ∧ r.2.mem ((c.tc : Thread Cert.OutHy.nD Cert.OutHy.τ).loc Cert.OutHy.main_arg2) = m ((c.tc : Thread Cert.OutHy.nD Cert.OutHy.τ).loc Cert.OutHy.main_arg2)
      ∧ r.2.mem ((c.tc : Thread Cert.OutHy.nD Cert.OutHy.τ).loc Cert.OutHy.main_arg3) = m ((c.tc : Thread Cert.OutHy.nD Cert.OutHy.τ).loc Cert.OutHy.main_arg3)
      ∧ r.2.mem ((c.tc : Thread Cert.OutHy.nD Cert.OutHy.τ).loc Cert.OutHy.main_arg4) = m ((c.tc : Thread Cert.OutHy.nD Cert.OutHy.τ).loc Cert.OutHy.main_arg4))
      ∧ r.2.sem = fun _ => 0)

def quiescent_OutHyIdeal [hOutHyIdeal : Cert.OutHyIdeal.Facts] : Prop :=
  ∀ (m : (ℓ : Loc Cert.OutHyIdeal.nD Cert.OutHyIdeal.τ Cert.OutHyIdeal.sig) → Buf (Elt Ideal) ℓ) (g : Dev Cert.OutHyIdeal.nD → PrngReg), Pre_OutHyIdeal m →
    θ_run (Cert.OutHyIdeal.defs (F := Ideal)) (onTc (τ := Cert.OutHyIdeal.τ) (Cert.OutHyIdeal.main (F := Ideal))) ⟨m, fun _ => 0, g⟩ (fun r => (∀ c : Dev Cert.OutHyIdeal.nD,
      r.2.mem ((c.tc : Thread Cert.OutHyIdeal.nD Cert.OutHyIdeal.τ).loc Cert.OutHyIdeal.main_arg0) = m ((c.tc : Thread Cert.OutHyIdeal.nD Cert.OutHyIdeal.τ).loc Cert.OutHyIdeal.main_arg0)
      ∧ r.2.mem ((c.tc : Thread Cert.OutHyIdeal.nD Cert.OutHyIdeal.τ).loc Cert.OutHyIdeal.main_arg1) = m ((c.tc : Thread Cert.OutHyIdeal.nD Cert.OutHyIdeal.τ).loc Cert.OutHyIdeal.main_arg1)
      ∧ r.2.mem ((c.tc : Thread Cert.OutHyIdeal.nD Cert.OutHyIdeal.τ).loc Cert.OutHyIdeal.main_arg2) = m ((c.tc : Thread Cert.OutHyIdeal.nD Cert.OutHyIdeal.τ).loc Cert.OutHyIdeal.main_arg2)
      ∧ r.2.mem ((c.tc : Thread Cert.OutHyIdeal.nD Cert.OutHyIdeal.τ).loc Cert.OutHyIdeal.main_arg3) = m ((c.tc : Thread Cert.OutHyIdeal.nD Cert.OutHyIdeal.τ).loc Cert.OutHyIdeal.main_arg3)
      ∧ r.2.mem ((c.tc : Thread Cert.OutHyIdeal.nD Cert.OutHyIdeal.τ).loc Cert.OutHyIdeal.main_arg4) = m ((c.tc : Thread Cert.OutHyIdeal.nD Cert.OutHyIdeal.τ).loc Cert.OutHyIdeal.main_arg4))
      ∧ r.2.sem = fun _ => 0)

def quiescent_OutHyRefIdeal [hOutHyRefIdeal : Cert.OutHyRefIdeal.Facts] : Prop :=
  ∀ (m : (ℓ : Loc Cert.OutHyRefIdeal.nD Cert.OutHyRefIdeal.τ Cert.OutHyRefIdeal.sig) → Buf (Elt Ideal) ℓ) (g : Dev Cert.OutHyRefIdeal.nD → PrngReg), Pre_OutHyRefIdeal m →
    θ_run (Cert.OutHyRefIdeal.defs (F := Ideal)) (onTc (τ := Cert.OutHyRefIdeal.τ) (Cert.OutHyRefIdeal.main (F := Ideal))) ⟨m, fun _ => 0, g⟩ (fun r => (∀ c : Dev Cert.OutHyRefIdeal.nD,
      r.2.mem ((c.tc : Thread Cert.OutHyRefIdeal.nD Cert.OutHyRefIdeal.τ).loc Cert.OutHyRefIdeal.main_arg0) = m ((c.tc : Thread Cert.OutHyRefIdeal.nD Cert.OutHyRefIdeal.τ).loc Cert.OutHyRefIdeal.main_arg0)
      ∧ r.2.mem ((c.tc : Thread Cert.OutHyRefIdeal.nD Cert.OutHyRefIdeal.τ).loc Cert.OutHyRefIdeal.main_arg1) = m ((c.tc : Thread Cert.OutHyRefIdeal.nD Cert.OutHyRefIdeal.τ).loc Cert.OutHyRefIdeal.main_arg1)
      ∧ r.2.mem ((c.tc : Thread Cert.OutHyRefIdeal.nD Cert.OutHyRefIdeal.τ).loc Cert.OutHyRefIdeal.main_arg2) = m ((c.tc : Thread Cert.OutHyRefIdeal.nD Cert.OutHyRefIdeal.τ).loc Cert.OutHyRefIdeal.main_arg2)
      ∧ r.2.mem ((c.tc : Thread Cert.OutHyRefIdeal.nD Cert.OutHyRefIdeal.τ).loc Cert.OutHyRefIdeal.main_arg3) = m ((c.tc : Thread Cert.OutHyRefIdeal.nD Cert.OutHyRefIdeal.τ).loc Cert.OutHyRefIdeal.main_arg3)
      ∧ r.2.mem ((c.tc : Thread Cert.OutHyRefIdeal.nD Cert.OutHyRefIdeal.τ).loc Cert.OutHyRefIdeal.main_arg4) = m ((c.tc : Thread Cert.OutHyRefIdeal.nD Cert.OutHyRefIdeal.τ).loc Cert.OutHyRefIdeal.main_arg4))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2)
      ∧ r.2.mem ((c.tc : Thread Cert.OutAb.nD Cert.OutAb.τ).loc Cert.OutAb.main_arg3) = m ((c.tc : Thread Cert.OutAb.nD Cert.OutAb.τ).loc Cert.OutAb.main_arg3)
      ∧ r.2.mem ((c.tc : Thread Cert.OutAb.nD Cert.OutAb.τ).loc Cert.OutAb.main_arg4) = m ((c.tc : Thread Cert.OutAb.nD Cert.OutAb.τ).loc Cert.OutAb.main_arg4)
      ∧ r.2.mem ((c.tc : Thread Cert.OutAb.nD Cert.OutAb.τ).loc Cert.OutAb.main_arg5) = m ((c.tc : Thread Cert.OutAb.nD Cert.OutAb.τ).loc Cert.OutAb.main_arg5)
      ∧ r.2.mem ((c.tc : Thread Cert.OutAb.nD Cert.OutAb.τ).loc Cert.OutAb.main_arg6) = m ((c.tc : Thread Cert.OutAb.nD Cert.OutAb.τ).loc Cert.OutAb.main_arg6))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
      ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
      ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4)
      ∧ r.2.mem ((c.tc : Thread Cert.OutAbIdeal.nD Cert.OutAbIdeal.τ).loc Cert.OutAbIdeal.main_arg5) = m ((c.tc : Thread Cert.OutAbIdeal.nD Cert.OutAbIdeal.τ).loc Cert.OutAbIdeal.main_arg5)
      ∧ r.2.mem ((c.tc : Thread Cert.OutAbIdeal.nD Cert.OutAbIdeal.τ).loc Cert.OutAbIdeal.main_arg6) = m ((c.tc : Thread Cert.OutAbIdeal.nD Cert.OutAbIdeal.τ).loc Cert.OutAbIdeal.main_arg6))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2)
      ∧ r.2.mem ((c.tc : Thread Cert.OutAbRefIdeal.nD Cert.OutAbRefIdeal.τ).loc Cert.OutAbRefIdeal.main_arg3) = m ((c.tc : Thread Cert.OutAbRefIdeal.nD Cert.OutAbRefIdeal.τ).loc Cert.OutAbRefIdeal.main_arg3)
      ∧ r.2.mem ((c.tc : Thread Cert.OutAbRefIdeal.nD Cert.OutAbRefIdeal.τ).loc Cert.OutAbRefIdeal.main_arg4) = m ((c.tc : Thread Cert.OutAbRefIdeal.nD Cert.OutAbRefIdeal.τ).loc Cert.OutAbRefIdeal.main_arg4)
      ∧ r.2.mem ((c.tc : Thread Cert.OutAbRefIdeal.nD Cert.OutAbRefIdeal.τ).loc Cert.OutAbRefIdeal.main_arg5) = m ((c.tc : Thread Cert.OutAbRefIdeal.nD Cert.OutAbRefIdeal.τ).loc Cert.OutAbRefIdeal.main_arg5)
      ∧ r.2.mem ((c.tc : Thread Cert.OutAbRefIdeal.nD Cert.OutAbRefIdeal.τ).loc Cert.OutAbRefIdeal.main_arg6) = m ((c.tc : Thread Cert.OutAbRefIdeal.nD Cert.OutAbRefIdeal.τ).loc Cert.OutAbRefIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_HyPre [hHyPre : Cert.HyPre.Facts] : Prop :=
  ∀ (m : (ℓ : Loc Cert.HyPre.nD Cert.HyPre.τ Cert.HyPre.sig) → Buf (Elt Bits) ℓ) (g : Dev Cert.HyPre.nD → PrngReg), Pre_HyPre m →
    θ_run (Cert.HyPre.defs (F := Bits)) (onTc (τ := Cert.HyPre.τ) (Cert.HyPre.main (F := Bits))) ⟨m, fun _ => 0, g⟩ (fun r => (∀ c : Dev Cert.HyPre.nD,
      r.2.mem ((c.tc : Thread Cert.HyPre.nD Cert.HyPre.τ).loc Cert.HyPre.main_arg0) = m ((c.tc : Thread Cert.HyPre.nD Cert.HyPre.τ).loc Cert.HyPre.main_arg0)
      ∧ r.2.mem ((c.tc : Thread Cert.HyPre.nD Cert.HyPre.τ).loc Cert.HyPre.main_arg1) = m ((c.tc : Thread Cert.HyPre.nD Cert.HyPre.τ).loc Cert.HyPre.main_arg1))
      ∧ r.2.sem = fun _ => 0)

def quiescent_HyPreIdeal [hHyPreIdeal : Cert.HyPreIdeal.Facts] : Prop :=
  ∀ (m : (ℓ : Loc Cert.HyPreIdeal.nD Cert.HyPreIdeal.τ Cert.HyPreIdeal.sig) → Buf (Elt Ideal) ℓ) (g : Dev Cert.HyPreIdeal.nD → PrngReg), Pre_HyPreIdeal m →
    θ_run (Cert.HyPreIdeal.defs (F := Ideal)) (onTc (τ := Cert.HyPreIdeal.τ) (Cert.HyPreIdeal.main (F := Ideal))) ⟨m, fun _ => 0, g⟩ (fun r => (∀ c : Dev Cert.HyPreIdeal.nD,
      r.2.mem ((c.tc : Thread Cert.HyPreIdeal.nD Cert.HyPreIdeal.τ).loc Cert.HyPreIdeal.main_arg0) = m ((c.tc : Thread Cert.HyPreIdeal.nD Cert.HyPreIdeal.τ).loc Cert.HyPreIdeal.main_arg0)
      ∧ r.2.mem ((c.tc : Thread Cert.HyPreIdeal.nD Cert.HyPreIdeal.τ).loc Cert.HyPreIdeal.main_arg1) = m ((c.tc : Thread Cert.HyPreIdeal.nD Cert.HyPreIdeal.τ).loc Cert.HyPreIdeal.main_arg1))
      ∧ r.2.sem = fun _ => 0)

def quiescent_HyPreRefIdeal [hHyPreRefIdeal : Cert.HyPreRefIdeal.Facts] : Prop :=
  ∀ (m : (ℓ : Loc Cert.HyPreRefIdeal.nD Cert.HyPreRefIdeal.τ Cert.HyPreRefIdeal.sig) → Buf (Elt Ideal) ℓ) (g : Dev Cert.HyPreRefIdeal.nD → PrngReg), Pre_HyPreRefIdeal m →
    θ_run (Cert.HyPreRefIdeal.defs (F := Ideal)) (onTc (τ := Cert.HyPreRefIdeal.τ) (Cert.HyPreRefIdeal.main (F := Ideal))) ⟨m, fun _ => 0, g⟩ (fun r => (∀ c : Dev Cert.HyPreRefIdeal.nD,
      r.2.mem ((c.tc : Thread Cert.HyPreRefIdeal.nD Cert.HyPreRefIdeal.τ).loc Cert.HyPreRefIdeal.main_arg0) = m ((c.tc : Thread Cert.HyPreRefIdeal.nD Cert.HyPreRefIdeal.τ).loc Cert.HyPreRefIdeal.main_arg0)
      ∧ r.2.mem ((c.tc : Thread Cert.HyPreRefIdeal.nD Cert.HyPreRefIdeal.τ).loc Cert.HyPreRefIdeal.main_arg1) = m ((c.tc : Thread Cert.HyPreRefIdeal.nD Cert.HyPreRefIdeal.τ).loc Cert.HyPreRefIdeal.main_arg1))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxIdeal_pre_finite_ctx_inputs [hCtxIdeal : Cert.CtxIdeal.Facts] [hPre_finite_ctx_inputs : Cert.Pre_finite_ctx_inputs.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_ctx_inputs m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0))
      ∧ r.2.sem = fun _ => 0)

def quiescent_CtxRefIdeal_pre_finite_ctx_inputs [hCtxRefIdeal : Cert.CtxRefIdeal.Facts] [hPre_finite_ctx_inputs : Cert.Pre_finite_ctx_inputs.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_ctx_inputs m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logit_inputs [hKernelIdeal : Cert.KernelIdeal.Facts] [hReferenceIdeal : Cert.ReferenceIdeal.Facts] [hPre_finite_logit_inputs : Cert.Pre_finite_logit_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logit_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InAb_InAbIdeal : Prop :=
  True

def algebraic_InAbIdeal_InAbRefIdeal [hInAbIdeal : Cert.InAbIdeal.Facts] [hInAbRefIdeal : Cert.InAbRefIdeal.Facts] : Prop :=
  ∀ (m : (ℓ : Loc Cert.InAbIdeal.nD Cert.InAbIdeal.τ Cert.InAbIdeal.sig) → Buf (Elt Ideal) ℓ) (g : Dev Cert.InAbIdeal.nD → PrngReg)
    (m' : (ℓ : Loc Cert.InAbRefIdeal.nD Cert.InAbRefIdeal.τ Cert.InAbRefIdeal.sig) → Buf (Elt Ideal) ℓ) (g' : Dev Cert.InAbRefIdeal.nD → PrngReg), Pre_InAbIdeal m →
    (∀ c : Dev Cert.InAbIdeal.nD,
      m' ((c.tc : Thread Cert.InAbRefIdeal.nD Cert.InAbRefIdeal.τ).loc Cert.InAbRefIdeal.main_arg0) = m ((c.tc : Thread Cert.InAbIdeal.nD Cert.InAbIdeal.τ).loc Cert.InAbIdeal.main_arg0)
      ∧ m' ((c.tc : Thread Cert.InAbRefIdeal.nD Cert.InAbRefIdeal.τ).loc Cert.InAbRefIdeal.main_arg1) = m ((c.tc : Thread Cert.InAbIdeal.nD Cert.InAbIdeal.τ).loc Cert.InAbIdeal.main_arg1)
      ∧ m' ((c.tc : Thread Cert.InAbRefIdeal.nD Cert.InAbRefIdeal.τ).loc Cert.InAbRefIdeal.main_arg2) = m ((c.tc : Thread Cert.InAbIdeal.nD Cert.InAbIdeal.τ).loc Cert.InAbIdeal.main_arg2)
      ∧ m' ((c.tc : Thread Cert.InAbRefIdeal.nD Cert.InAbRefIdeal.τ).loc Cert.InAbRefIdeal.main_arg3) = m ((c.tc : Thread Cert.InAbIdeal.nD Cert.InAbIdeal.τ).loc Cert.InAbIdeal.main_arg3)) →
    ∃ (v0 : (c : Dev Cert.InAbIdeal.nD) → Buf (Elt Ideal) ((c.tc : Thread Cert.InAbIdeal.nD Cert.InAbIdeal.τ).loc Cert.InAbIdeal.main_v1_0)) (v1 : (c : Dev Cert.InAbIdeal.nD) → Buf (Elt Ideal) ((c.tc : Thread Cert.InAbIdeal.nD Cert.InAbIdeal.τ).loc Cert.InAbIdeal.main_v1_1)),
      θ_run (Cert.InAbIdeal.defs (F := Ideal)) (onTc (τ := Cert.InAbIdeal.τ) (Cert.InAbIdeal.main (F := Ideal))) ⟨m, fun _ => 0, g⟩ (fun r => ∀ c : Dev Cert.InAbIdeal.nD,
          r.2.mem ((c.tc : Thread Cert.InAbIdeal.nD Cert.InAbIdeal.τ).loc Cert.InAbIdeal.main_v1_0) = v0 c
          ∧ r.2.mem ((c.tc : Thread Cert.InAbIdeal.nD Cert.InAbIdeal.τ).loc Cert.InAbIdeal.main_v1_1) = v1 c
          ∧ r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
          ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1)
          ∧ r.2.mem ((c.tc : Thread Cert.InAbIdeal.nD Cert.InAbIdeal.τ).loc Cert.InAbIdeal.main_arg2) = m ((c.tc : Thread Cert.InAbIdeal.nD Cert.InAbIdeal.τ).loc Cert.InAbIdeal.main_arg2)
          ∧ r.2.mem ((c.tc : Thread Cert.InAbIdeal.nD Cert.InAbIdeal.τ).loc Cert.InAbIdeal.main_arg3) = m ((c.tc : Thread Cert.InAbIdeal.nD Cert.InAbIdeal.τ).loc Cert.InAbIdeal.main_arg3))
      ∧ θ_run (Cert.InAbRefIdeal.defs (F := Ideal)) (onTc (τ := Cert.InAbRefIdeal.τ) (Cert.InAbRefIdeal.main (F := Ideal))) ⟨m', fun _ => 0, g'⟩ (fun r => ∀ c : Dev Cert.InAbRefIdeal.nD,
          r.2.mem ((c.tc : Thread Cert.InAbRefIdeal.nD Cert.InAbRefIdeal.τ).loc Cert.InAbRefIdeal.main_v31) = v0 c
          ∧ r.2.mem ((c.tc : Thread Cert.InAbRefIdeal.nD Cert.InAbRefIdeal.τ).loc Cert.InAbRefIdeal.main_v32) = v1 c
          ∧ r.2.mem ((c.tc : Thread Cert.InAbRefIdeal.nD Cert.InAbRefIdeal.τ).loc Cert.InAbRefIdeal.main_arg0) = m' ((c.tc : Thread Cert.InAbRefIdeal.nD Cert.InAbRefIdeal.τ).loc Cert.InAbRefIdeal.main_arg0)
          ∧ r.2.mem ((c.tc : Thread Cert.InAbRefIdeal.nD Cert.InAbRefIdeal.τ).loc Cert.InAbRefIdeal.main_arg1) = m' ((c.tc : Thread Cert.InAbRefIdeal.nD Cert.InAbRefIdeal.τ).loc Cert.InAbRefIdeal.main_arg1)
          ∧ r.2.mem ((c.tc : Thread Cert.InAbRefIdeal.nD Cert.InAbRefIdeal.τ).loc Cert.InAbRefIdeal.main_arg2) = m' ((c.tc : Thread Cert.InAbRefIdeal.nD Cert.InAbRefIdeal.τ).loc Cert.InAbRefIdeal.main_arg2)
          ∧ r.2.mem ((c.tc : Thread Cert.InAbRefIdeal.nD Cert.InAbRefIdeal.τ).loc Cert.InAbRefIdeal.main_arg3) = m' ((c.tc : Thread Cert.InAbRefIdeal.nD Cert.InAbRefIdeal.τ).loc Cert.InAbRefIdeal.main_arg3))

def preserves_InHy_InHyIdeal : Prop :=
  True

def algebraic_InHyIdeal_InHyRefIdeal [hInHyIdeal : Cert.InHyIdeal.Facts] [hInHyRefIdeal : Cert.InHyRefIdeal.Facts] : Prop :=
  ∀ (m : (ℓ : Loc Cert.InHyIdeal.nD Cert.InHyIdeal.τ Cert.InHyIdeal.sig) → Buf (Elt Ideal) ℓ) (g : Dev Cert.InHyIdeal.nD → PrngReg)
    (m' : (ℓ : Loc Cert.InHyRefIdeal.nD Cert.InHyRefIdeal.τ Cert.InHyRefIdeal.sig) → Buf (Elt Ideal) ℓ) (g' : Dev Cert.InHyRefIdeal.nD → PrngReg), Pre_InHyIdeal m →
    (∀ c : Dev Cert.InHyIdeal.nD,
      m' ((c.tc : Thread Cert.InHyRefIdeal.nD Cert.InHyRefIdeal.τ).loc Cert.InHyRefIdeal.main_arg0) = m ((c.tc : Thread Cert.InHyIdeal.nD Cert.InHyIdeal.τ).loc Cert.InHyIdeal.main_arg0)
      ∧ m' ((c.tc : Thread Cert.InHyRefIdeal.nD Cert.InHyRefIdeal.τ).loc Cert.InHyRefIdeal.main_arg1) = m ((c.tc : Thread Cert.InHyIdeal.nD Cert.InHyIdeal.τ).loc Cert.InHyIdeal.main_arg1)
      ∧ m' ((c.tc : Thread Cert.InHyRefIdeal.nD Cert.InHyRefIdeal.τ).loc Cert.InHyRefIdeal.main_arg2) = m ((c.tc : Thread Cert.InHyIdeal.nD Cert.InHyIdeal.τ).loc Cert.InHyIdeal.main_arg2)
      ∧ m' ((c.tc : Thread Cert.InHyRefIdeal.nD Cert.InHyRefIdeal.τ).loc Cert.InHyRefIdeal.main_arg3) = m ((c.tc : Thread Cert.InHyIdeal.nD Cert.InHyIdeal.τ).loc Cert.InHyIdeal.main_arg3)) →
    ∃ (v0 : (c : Dev Cert.InHyIdeal.nD) → Buf (Elt Ideal) ((c.tc : Thread Cert.InHyIdeal.nD Cert.InHyIdeal.τ).loc Cert.InHyIdeal.main_v1)),
      θ_run (Cert.InHyIdeal.defs (F := Ideal)) (onTc (τ := Cert.InHyIdeal.τ) (Cert.InHyIdeal.main (F := Ideal))) ⟨m, fun _ => 0, g⟩ (fun r => ∀ c : Dev Cert.InHyIdeal.nD,
          r.2.mem ((c.tc : Thread Cert.InHyIdeal.nD Cert.InHyIdeal.τ).loc Cert.InHyIdeal.main_v1) = v0 c
          ∧ r.2.mem ((c.tc : Thread Cert.InHyIdeal.nD Cert.InHyIdeal.τ).loc Cert.InHyIdeal.main_arg0) = m ((c.tc : Thread Cert.InHyIdeal.nD Cert.InHyIdeal.τ).loc Cert.InHyIdeal.main_arg0)
          ∧ r.2.mem ((c.tc : Thread Cert.InHyIdeal.nD Cert.InHyIdeal.τ).loc Cert.InHyIdeal.main_arg1) = m ((c.tc : Thread Cert.InHyIdeal.nD Cert.InHyIdeal.τ).loc Cert.InHyIdeal.main_arg1)
          ∧ r.2.mem ((c.tc : Thread Cert.InHyIdeal.nD Cert.InHyIdeal.τ).loc Cert.InHyIdeal.main_arg2) = m ((c.tc : Thread Cert.InHyIdeal.nD Cert.InHyIdeal.τ).loc Cert.InHyIdeal.main_arg2)
          ∧ r.2.mem ((c.tc : Thread Cert.InHyIdeal.nD Cert.InHyIdeal.τ).loc Cert.InHyIdeal.main_arg3) = m ((c.tc : Thread Cert.InHyIdeal.nD Cert.InHyIdeal.τ).loc Cert.InHyIdeal.main_arg3))
      ∧ θ_run (Cert.InHyRefIdeal.defs (F := Ideal)) (onTc (τ := Cert.InHyRefIdeal.τ) (Cert.InHyRefIdeal.main (F := Ideal))) ⟨m', fun _ => 0, g'⟩ (fun r => ∀ c : Dev Cert.InHyRefIdeal.nD,
          r.2.mem ((c.tc : Thread Cert.InHyRefIdeal.nD Cert.InHyRefIdeal.τ).loc Cert.InHyRefIdeal.main_v29) = v0 c
          ∧ r.2.mem ((c.tc : Thread Cert.InHyRefIdeal.nD Cert.InHyRefIdeal.τ).loc Cert.InHyRefIdeal.main_arg0) = m' ((c.tc : Thread Cert.InHyRefIdeal.nD Cert.InHyRefIdeal.τ).loc Cert.InHyRefIdeal.main_arg0)
          ∧ r.2.mem ((c.tc : Thread Cert.InHyRefIdeal.nD Cert.InHyRefIdeal.τ).loc Cert.InHyRefIdeal.main_arg1) = m' ((c.tc : Thread Cert.InHyRefIdeal.nD Cert.InHyRefIdeal.τ).loc Cert.InHyRefIdeal.main_arg1)
          ∧ r.2.mem ((c.tc : Thread Cert.InHyRefIdeal.nD Cert.InHyRefIdeal.τ).loc Cert.InHyRefIdeal.main_arg2) = m' ((c.tc : Thread Cert.InHyRefIdeal.nD Cert.InHyRefIdeal.τ).loc Cert.InHyRefIdeal.main_arg2)
          ∧ r.2.mem ((c.tc : Thread Cert.InHyRefIdeal.nD Cert.InHyRefIdeal.τ).loc Cert.InHyRefIdeal.main_arg3) = m' ((c.tc : Thread Cert.InHyRefIdeal.nD Cert.InHyRefIdeal.τ).loc Cert.InHyRefIdeal.main_arg3))

def preserves_OutHy_OutHyIdeal : Prop :=
  True

def algebraic_OutHyIdeal_OutHyRefIdeal [hOutHyIdeal : Cert.OutHyIdeal.Facts] [hOutHyRefIdeal : Cert.OutHyRefIdeal.Facts] : Prop :=
  ∀ (m : (ℓ : Loc Cert.OutHyIdeal.nD Cert.OutHyIdeal.τ Cert.OutHyIdeal.sig) → Buf (Elt Ideal) ℓ) (g : Dev Cert.OutHyIdeal.nD → PrngReg)
    (m' : (ℓ : Loc Cert.OutHyRefIdeal.nD Cert.OutHyRefIdeal.τ Cert.OutHyRefIdeal.sig) → Buf (Elt Ideal) ℓ) (g' : Dev Cert.OutHyRefIdeal.nD → PrngReg), Pre_OutHyIdeal m →
    (∀ c : Dev Cert.OutHyIdeal.nD,
      m' ((c.tc : Thread Cert.OutHyRefIdeal.nD Cert.OutHyRefIdeal.τ).loc Cert.OutHyRefIdeal.main_arg0) = m ((c.tc : Thread Cert.OutHyIdeal.nD Cert.OutHyIdeal.τ).loc Cert.OutHyIdeal.main_arg0)
      ∧ m' ((c.tc : Thread Cert.OutHyRefIdeal.nD Cert.OutHyRefIdeal.τ).loc Cert.OutHyRefIdeal.main_arg1) = m ((c.tc : Thread Cert.OutHyIdeal.nD Cert.OutHyIdeal.τ).loc Cert.OutHyIdeal.main_arg1)
      ∧ m' ((c.tc : Thread Cert.OutHyRefIdeal.nD Cert.OutHyRefIdeal.τ).loc Cert.OutHyRefIdeal.main_arg2) = m ((c.tc : Thread Cert.OutHyIdeal.nD Cert.OutHyIdeal.τ).loc Cert.OutHyIdeal.main_arg2)
      ∧ m' ((c.tc : Thread Cert.OutHyRefIdeal.nD Cert.OutHyRefIdeal.τ).loc Cert.OutHyRefIdeal.main_arg3) = m ((c.tc : Thread Cert.OutHyIdeal.nD Cert.OutHyIdeal.τ).loc Cert.OutHyIdeal.main_arg3)
      ∧ m' ((c.tc : Thread Cert.OutHyRefIdeal.nD Cert.OutHyRefIdeal.τ).loc Cert.OutHyRefIdeal.main_arg4) = m ((c.tc : Thread Cert.OutHyIdeal.nD Cert.OutHyIdeal.τ).loc Cert.OutHyIdeal.main_arg4)) →
    ∃ (v0 : (c : Dev Cert.OutHyIdeal.nD) → Buf (Elt Ideal) ((c.tc : Thread Cert.OutHyIdeal.nD Cert.OutHyIdeal.τ).loc Cert.OutHyIdeal.main_v1)),
      θ_run (Cert.OutHyIdeal.defs (F := Ideal)) (onTc (τ := Cert.OutHyIdeal.τ) (Cert.OutHyIdeal.main (F := Ideal))) ⟨m, fun _ => 0, g⟩ (fun r => ∀ c : Dev Cert.OutHyIdeal.nD,
          r.2.mem ((c.tc : Thread Cert.OutHyIdeal.nD Cert.OutHyIdeal.τ).loc Cert.OutHyIdeal.main_v1) = v0 c
          ∧ r.2.mem ((c.tc : Thread Cert.OutHyIdeal.nD Cert.OutHyIdeal.τ).loc Cert.OutHyIdeal.main_arg0) = m ((c.tc : Thread Cert.OutHyIdeal.nD Cert.OutHyIdeal.τ).loc Cert.OutHyIdeal.main_arg0)
          ∧ r.2.mem ((c.tc : Thread Cert.OutHyIdeal.nD Cert.OutHyIdeal.τ).loc Cert.OutHyIdeal.main_arg1) = m ((c.tc : Thread Cert.OutHyIdeal.nD Cert.OutHyIdeal.τ).loc Cert.OutHyIdeal.main_arg1)
          ∧ r.2.mem ((c.tc : Thread Cert.OutHyIdeal.nD Cert.OutHyIdeal.τ).loc Cert.OutHyIdeal.main_arg2) = m ((c.tc : Thread Cert.OutHyIdeal.nD Cert.OutHyIdeal.τ).loc Cert.OutHyIdeal.main_arg2)
          ∧ r.2.mem ((c.tc : Thread Cert.OutHyIdeal.nD Cert.OutHyIdeal.τ).loc Cert.OutHyIdeal.main_arg3) = m ((c.tc : Thread Cert.OutHyIdeal.nD Cert.OutHyIdeal.τ).loc Cert.OutHyIdeal.main_arg3)
          ∧ r.2.mem ((c.tc : Thread Cert.OutHyIdeal.nD Cert.OutHyIdeal.τ).loc Cert.OutHyIdeal.main_arg4) = m ((c.tc : Thread Cert.OutHyIdeal.nD Cert.OutHyIdeal.τ).loc Cert.OutHyIdeal.main_arg4))
      ∧ θ_run (Cert.OutHyRefIdeal.defs (F := Ideal)) (onTc (τ := Cert.OutHyRefIdeal.τ) (Cert.OutHyRefIdeal.main (F := Ideal))) ⟨m', fun _ => 0, g'⟩ (fun r => ∀ c : Dev Cert.OutHyRefIdeal.nD,
          r.2.mem ((c.tc : Thread Cert.OutHyRefIdeal.nD Cert.OutHyRefIdeal.τ).loc Cert.OutHyRefIdeal.main_v25) = v0 c
          ∧ r.2.mem ((c.tc : Thread Cert.OutHyRefIdeal.nD Cert.OutHyRefIdeal.τ).loc Cert.OutHyRefIdeal.main_arg0) = m' ((c.tc : Thread Cert.OutHyRefIdeal.nD Cert.OutHyRefIdeal.τ).loc Cert.OutHyRefIdeal.main_arg0)
          ∧ r.2.mem ((c.tc : Thread Cert.OutHyRefIdeal.nD Cert.OutHyRefIdeal.τ).loc Cert.OutHyRefIdeal.main_arg1) = m' ((c.tc : Thread Cert.OutHyRefIdeal.nD Cert.OutHyRefIdeal.τ).loc Cert.OutHyRefIdeal.main_arg1)
          ∧ r.2.mem ((c.tc : Thread Cert.OutHyRefIdeal.nD Cert.OutHyRefIdeal.τ).loc Cert.OutHyRefIdeal.main_arg2) = m' ((c.tc : Thread Cert.OutHyRefIdeal.nD Cert.OutHyRefIdeal.τ).loc Cert.OutHyRefIdeal.main_arg2)
          ∧ r.2.mem ((c.tc : Thread Cert.OutHyRefIdeal.nD Cert.OutHyRefIdeal.τ).loc Cert.OutHyRefIdeal.main_arg3) = m' ((c.tc : Thread Cert.OutHyRefIdeal.nD Cert.OutHyRefIdeal.τ).loc Cert.OutHyRefIdeal.main_arg3)
          ∧ r.2.mem ((c.tc : Thread Cert.OutHyRefIdeal.nD Cert.OutHyRefIdeal.τ).loc Cert.OutHyRefIdeal.main_arg4) = m' ((c.tc : Thread Cert.OutHyRefIdeal.nD Cert.OutHyRefIdeal.τ).loc Cert.OutHyRefIdeal.main_arg4))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)
      ∧ m' ((c.tc : Thread Cert.OutAbRefIdeal.nD Cert.OutAbRefIdeal.τ).loc Cert.OutAbRefIdeal.main_arg3) = m ((c.tc : Thread Cert.OutAbIdeal.nD Cert.OutAbIdeal.τ).loc Cert.OutAbIdeal.main_arg3)
      ∧ m' ((c.tc : Thread Cert.OutAbRefIdeal.nD Cert.OutAbRefIdeal.τ).loc Cert.OutAbRefIdeal.main_arg4) = m ((c.tc : Thread Cert.OutAbIdeal.nD Cert.OutAbIdeal.τ).loc Cert.OutAbIdeal.main_arg4)
      ∧ m' ((c.tc : Thread Cert.OutAbRefIdeal.nD Cert.OutAbRefIdeal.τ).loc Cert.OutAbRefIdeal.main_arg5) = m ((c.tc : Thread Cert.OutAbIdeal.nD Cert.OutAbIdeal.τ).loc Cert.OutAbIdeal.main_arg5)
      ∧ m' ((c.tc : Thread Cert.OutAbRefIdeal.nD Cert.OutAbRefIdeal.τ).loc Cert.OutAbRefIdeal.main_arg6) = m ((c.tc : Thread Cert.OutAbIdeal.nD Cert.OutAbIdeal.τ).loc Cert.OutAbIdeal.main_arg6)) →
    ∃ (v0 : (c : Dev Cert.OutAbIdeal.nD) → Buf (Elt Ideal) ((c.tc : Thread Cert.OutAbIdeal.nD Cert.OutAbIdeal.τ).loc Cert.OutAbIdeal.main_v1)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v1) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
          ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
          ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4)
          ∧ r.2.mem ((c.tc : Thread Cert.OutAbIdeal.nD Cert.OutAbIdeal.τ).loc Cert.OutAbIdeal.main_arg5) = m ((c.tc : Thread Cert.OutAbIdeal.nD Cert.OutAbIdeal.τ).loc Cert.OutAbIdeal.main_arg5)
          ∧ r.2.mem ((c.tc : Thread Cert.OutAbIdeal.nD Cert.OutAbIdeal.τ).loc Cert.OutAbIdeal.main_arg6) = m ((c.tc : Thread Cert.OutAbIdeal.nD Cert.OutAbIdeal.τ).loc Cert.OutAbIdeal.main_arg6))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v54) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2)
          ∧ r.2.mem ((c.tc : Thread Cert.OutAbRefIdeal.nD Cert.OutAbRefIdeal.τ).loc Cert.OutAbRefIdeal.main_arg3) = m' ((c.tc : Thread Cert.OutAbRefIdeal.nD Cert.OutAbRefIdeal.τ).loc Cert.OutAbRefIdeal.main_arg3)
          ∧ r.2.mem ((c.tc : Thread Cert.OutAbRefIdeal.nD Cert.OutAbRefIdeal.τ).loc Cert.OutAbRefIdeal.main_arg4) = m' ((c.tc : Thread Cert.OutAbRefIdeal.nD Cert.OutAbRefIdeal.τ).loc Cert.OutAbRefIdeal.main_arg4)
          ∧ r.2.mem ((c.tc : Thread Cert.OutAbRefIdeal.nD Cert.OutAbRefIdeal.τ).loc Cert.OutAbRefIdeal.main_arg5) = m' ((c.tc : Thread Cert.OutAbRefIdeal.nD Cert.OutAbRefIdeal.τ).loc Cert.OutAbRefIdeal.main_arg5)
          ∧ r.2.mem ((c.tc : Thread Cert.OutAbRefIdeal.nD Cert.OutAbRefIdeal.τ).loc Cert.OutAbRefIdeal.main_arg6) = m' ((c.tc : Thread Cert.OutAbRefIdeal.nD Cert.OutAbRefIdeal.τ).loc Cert.OutAbRefIdeal.main_arg6))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v5) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_HyPre_HyPreIdeal : Prop :=
  True

def algebraic_HyPreIdeal_HyPreRefIdeal [hHyPreIdeal : Cert.HyPreIdeal.Facts] [hHyPreRefIdeal : Cert.HyPreRefIdeal.Facts] : Prop :=
  ∀ (m : (ℓ : Loc Cert.HyPreIdeal.nD Cert.HyPreIdeal.τ Cert.HyPreIdeal.sig) → Buf (Elt Ideal) ℓ) (g : Dev Cert.HyPreIdeal.nD → PrngReg)
    (m' : (ℓ : Loc Cert.HyPreRefIdeal.nD Cert.HyPreRefIdeal.τ Cert.HyPreRefIdeal.sig) → Buf (Elt Ideal) ℓ) (g' : Dev Cert.HyPreRefIdeal.nD → PrngReg), Pre_HyPreIdeal m →
    (∀ c : Dev Cert.HyPreIdeal.nD,
      m' ((c.tc : Thread Cert.HyPreRefIdeal.nD Cert.HyPreRefIdeal.τ).loc Cert.HyPreRefIdeal.main_arg0) = m ((c.tc : Thread Cert.HyPreIdeal.nD Cert.HyPreIdeal.τ).loc Cert.HyPreIdeal.main_arg0)
      ∧ m' ((c.tc : Thread Cert.HyPreRefIdeal.nD Cert.HyPreRefIdeal.τ).loc Cert.HyPreRefIdeal.main_arg1) = m ((c.tc : Thread Cert.HyPreIdeal.nD Cert.HyPreIdeal.τ).loc Cert.HyPreIdeal.main_arg1)) →
    ∃ (v0 : (c : Dev Cert.HyPreIdeal.nD) → Buf (Elt Ideal) ((c.tc : Thread Cert.HyPreIdeal.nD Cert.HyPreIdeal.τ).loc Cert.HyPreIdeal.main_v0_0)) (v1 : (c : Dev Cert.HyPreIdeal.nD) → Buf (Elt Ideal) ((c.tc : Thread Cert.HyPreIdeal.nD Cert.HyPreIdeal.τ).loc Cert.HyPreIdeal.main_v0_1)),
      θ_run (Cert.HyPreIdeal.defs (F := Ideal)) (onTc (τ := Cert.HyPreIdeal.τ) (Cert.HyPreIdeal.main (F := Ideal))) ⟨m, fun _ => 0, g⟩ (fun r => ∀ c : Dev Cert.HyPreIdeal.nD,
          r.2.mem ((c.tc : Thread Cert.HyPreIdeal.nD Cert.HyPreIdeal.τ).loc Cert.HyPreIdeal.main_v0_0) = v0 c
          ∧ r.2.mem ((c.tc : Thread Cert.HyPreIdeal.nD Cert.HyPreIdeal.τ).loc Cert.HyPreIdeal.main_v0_1) = v1 c
          ∧ r.2.mem ((c.tc : Thread Cert.HyPreIdeal.nD Cert.HyPreIdeal.τ).loc Cert.HyPreIdeal.main_arg0) = m ((c.tc : Thread Cert.HyPreIdeal.nD Cert.HyPreIdeal.τ).loc Cert.HyPreIdeal.main_arg0)
          ∧ r.2.mem ((c.tc : Thread Cert.HyPreIdeal.nD Cert.HyPreIdeal.τ).loc Cert.HyPreIdeal.main_arg1) = m ((c.tc : Thread Cert.HyPreIdeal.nD Cert.HyPreIdeal.τ).loc Cert.HyPreIdeal.main_arg1))
      ∧ θ_run (Cert.HyPreRefIdeal.defs (F := Ideal)) (onTc (τ := Cert.HyPreRefIdeal.τ) (Cert.HyPreRefIdeal.main (F := Ideal))) ⟨m', fun _ => 0, g'⟩ (fun r => ∀ c : Dev Cert.HyPreRefIdeal.nD,
          r.2.mem ((c.tc : Thread Cert.HyPreRefIdeal.nD Cert.HyPreRefIdeal.τ).loc Cert.HyPreRefIdeal.main_v25) = v0 c
          ∧ r.2.mem ((c.tc : Thread Cert.HyPreRefIdeal.nD Cert.HyPreRefIdeal.τ).loc Cert.HyPreRefIdeal.main_v27) = v1 c
          ∧ r.2.mem ((c.tc : Thread Cert.HyPreRefIdeal.nD Cert.HyPreRefIdeal.τ).loc Cert.HyPreRefIdeal.main_arg0) = m' ((c.tc : Thread Cert.HyPreRefIdeal.nD Cert.HyPreRefIdeal.τ).loc Cert.HyPreRefIdeal.main_arg0)
          ∧ r.2.mem ((c.tc : Thread Cert.HyPreRefIdeal.nD Cert.HyPreRefIdeal.τ).loc Cert.HyPreRefIdeal.main_arg1) = m' ((c.tc : Thread Cert.HyPreRefIdeal.nD Cert.HyPreRefIdeal.τ).loc Cert.HyPreRefIdeal.main_arg1))

def preserves_Ctx_CtxIdeal : Prop :=
  True

def algebraic_CtxIdeal_CtxRefIdeal_pre_finite_ctx_inputs [hCtxIdeal : Cert.CtxIdeal.Facts] [hCtxRefIdeal : Cert.CtxRefIdeal.Facts] [hPre_finite_ctx_inputs : Cert.Pre_finite_ctx_inputs.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_ctx_inputs m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)) →
    ∃ (v0 : (c : Dev Cert.CtxIdeal.nD) → Buf (Elt Ideal) ((c.tc : Thread Cert.CtxIdeal.nD Cert.CtxIdeal.τ).loc Cert.CtxIdeal.main_v1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v1) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v25) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInAb : Cert.InAb.Facts) (hInAbIdeal : Cert.InAbIdeal.Facts) (hInAbRefIdeal : Cert.InAbRefIdeal.Facts) (hInHy : Cert.InHy.Facts) (hInHyIdeal : Cert.InHyIdeal.Facts) (hInHyRefIdeal : Cert.InHyRefIdeal.Facts) (hOutHy : Cert.OutHy.Facts) (hOutHyIdeal : Cert.OutHyIdeal.Facts) (hOutHyRefIdeal : Cert.OutHyRefIdeal.Facts) (hOutAb : Cert.OutAb.Facts) (hOutAbIdeal : Cert.OutAbIdeal.Facts) (hOutAbRefIdeal : Cert.OutAbRefIdeal.Facts) (hMod : Cert.Mod.Facts) (hModIdeal : Cert.ModIdeal.Facts) (hModRefIdeal : Cert.ModRefIdeal.Facts) (hHyPre : Cert.HyPre.Facts) (hHyPreIdeal : Cert.HyPreIdeal.Facts) (hHyPreRefIdeal : Cert.HyPreRefIdeal.Facts) (hCtx : Cert.Ctx.Facts) (hCtxIdeal : Cert.CtxIdeal.Facts) (hCtxRefIdeal : Cert.CtxRefIdeal.Facts) (hPre_finite_logit_inputs : Cert.Pre_finite_logit_inputs.Facts) (hPre_finite_ctx_inputs : Cert.Pre_finite_ctx_inputs.Facts),
    quiescent_Kernel (hKernel := hKernel)
    ∧ quiescent_KernelIdeal (hKernelIdeal := hKernelIdeal)
    ∧ quiescent_KernelIdeal_pre_finite_logit_inputs (hKernelIdeal := hKernelIdeal) (hPre_finite_logit_inputs := hPre_finite_logit_inputs)
    ∧ quiescent_ReferenceIdeal (hReferenceIdeal := hReferenceIdeal)
    ∧ quiescent_ReferenceIdeal_pre_finite_logit_inputs (hReferenceIdeal := hReferenceIdeal) (hPre_finite_logit_inputs := hPre_finite_logit_inputs)
    ∧ quiescent_Ffn (hFfn := hFfn)
    ∧ quiescent_FfnIdeal (hFfnIdeal := hFfnIdeal)
    ∧ quiescent_FfnRefIdeal (hFfnRefIdeal := hFfnRefIdeal)
    ∧ quiescent_InAb (hInAb := hInAb)
    ∧ quiescent_InAbIdeal (hInAbIdeal := hInAbIdeal)
    ∧ quiescent_InAbRefIdeal (hInAbRefIdeal := hInAbRefIdeal)
    ∧ quiescent_InHy (hInHy := hInHy)
    ∧ quiescent_InHyIdeal (hInHyIdeal := hInHyIdeal)
    ∧ quiescent_InHyRefIdeal (hInHyRefIdeal := hInHyRefIdeal)
    ∧ quiescent_OutHy (hOutHy := hOutHy)
    ∧ quiescent_OutHyIdeal (hOutHyIdeal := hOutHyIdeal)
    ∧ quiescent_OutHyRefIdeal (hOutHyRefIdeal := hOutHyRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_Mod (hMod := hMod)
    ∧ quiescent_ModIdeal (hModIdeal := hModIdeal)
    ∧ quiescent_ModRefIdeal (hModRefIdeal := hModRefIdeal)
    ∧ quiescent_HyPre (hHyPre := hHyPre)
    ∧ quiescent_HyPreIdeal (hHyPreIdeal := hHyPreIdeal)
    ∧ quiescent_HyPreRefIdeal (hHyPreRefIdeal := hHyPreRefIdeal)
    ∧ quiescent_Ctx (hCtx := hCtx)
    ∧ quiescent_CtxIdeal (hCtxIdeal := hCtxIdeal)
    ∧ quiescent_CtxIdeal_pre_finite_ctx_inputs (hCtxIdeal := hCtxIdeal) (hPre_finite_ctx_inputs := hPre_finite_ctx_inputs)
    ∧ quiescent_CtxRefIdeal (hCtxRefIdeal := hCtxRefIdeal)
    ∧ quiescent_CtxRefIdeal_pre_finite_ctx_inputs (hCtxRefIdeal := hCtxRefIdeal) (hPre_finite_ctx_inputs := hPre_finite_ctx_inputs)
    ∧ preserves_Kernel_KernelIdeal
    ∧ algebraic_KernelIdeal_ReferenceIdeal_pre_finite_logit_inputs (hKernelIdeal := hKernelIdeal) (hReferenceIdeal := hReferenceIdeal) (hPre_finite_logit_inputs := hPre_finite_logit_inputs)
    ∧ preserves_Ffn_FfnIdeal
    ∧ algebraic_FfnIdeal_FfnRefIdeal (hFfnIdeal := hFfnIdeal) (hFfnRefIdeal := hFfnRefIdeal)
    ∧ preserves_InAb_InAbIdeal
    ∧ algebraic_InAbIdeal_InAbRefIdeal (hInAbIdeal := hInAbIdeal) (hInAbRefIdeal := hInAbRefIdeal)
    ∧ preserves_InHy_InHyIdeal
    ∧ algebraic_InHyIdeal_InHyRefIdeal (hInHyIdeal := hInHyIdeal) (hInHyRefIdeal := hInHyRefIdeal)
    ∧ preserves_OutHy_OutHyIdeal
    ∧ algebraic_OutHyIdeal_OutHyRefIdeal (hOutHyIdeal := hOutHyIdeal) (hOutHyRefIdeal := hOutHyRefIdeal)
    ∧ preserves_OutAb_OutAbIdeal
    ∧ algebraic_OutAbIdeal_OutAbRefIdeal (hOutAbIdeal := hOutAbIdeal) (hOutAbRefIdeal := hOutAbRefIdeal)
    ∧ preserves_Mod_ModIdeal
    ∧ algebraic_ModIdeal_ModRefIdeal (hModIdeal := hModIdeal) (hModRefIdeal := hModRefIdeal)
    ∧ preserves_HyPre_HyPreIdeal
    ∧ algebraic_HyPreIdeal_HyPreRefIdeal (hHyPreIdeal := hHyPreIdeal) (hHyPreRefIdeal := hHyPreRefIdeal)
    ∧ preserves_Ctx_CtxIdeal
    ∧ algebraic_CtxIdeal_CtxRefIdeal_pre_finite_ctx_inputs (hCtxIdeal := hCtxIdeal) (hCtxRefIdeal := hCtxRefIdeal) (hPre_finite_ctx_inputs := hPre_finite_ctx_inputs)
-- ==== Pre_finite_ctx_inputs.lean ====
abbrev S1024x1536 : Shape := ⟨2, ![1024, 1536]⟩
abbrev S1024x1024 : Shape := ⟨2, ![1024, 1024]⟩
abbrev S_ : Shape := ⟨0, ![]⟩

class Facts : Prop where
  slices_S1024x1536_S1024x1024_0_0 : S1024x1536.Slices ![0, 0] S1024x1024
  bcast_S_S1024x1024 : S_.BroadcastsInDim S1024x1024 (![] : Fin 0 → Fin S1024x1024.rank)

variable [Facts]

def fn {F : FTy → Type} [FloatOps F] (main_arg0 : FVec F S1024x1536 .bf16) : IVec S1024x1024 1 :=
  let main_v0 : FVec F S1024x1024 .bf16 := (extractStridedSlice S1024x1024 ![0, 0] · slices_S1024x1536_S1024x1024_0_0) main_arg0
  let main_v1 : FVec F S1024x1024 .bf16 := Host.absf main_v0
  let main_cst : FVec F S_ .bf16 := constant S_ .bf16 0x7F80#16
  let main_v2 : FVec F S1024x1024 .bf16 := broadcastInDim S1024x1024 ![] bcast_S_S1024x1024 main_cst
  let main_v3 : IVec S1024x1024 1 := cmpf .olt main_v1 main_v2
  main_v3
-- ==== Pre_finite_logit_inputs.lean ====
abbrev S32768x1536 : Shape := ⟨2, ![32768, 1536]⟩
abbrev S1024x1536 : Shape := ⟨2, ![1024, 1536]⟩
abbrev S8x15x31 : Shape := ⟨3, ![8, 15, 31]⟩
abbrev S32768x1024 : Shape := ⟨2, ![32768, 1024]⟩
abbrev S_ : Shape := ⟨0, ![]⟩
abbrev S1024x512 : Shape := ⟨2, ![1024, 512]⟩

class Facts : Prop where
  slices_S32768x1536_S32768x1024_0_0 : S32768x1536.Slices ![0, 0] S32768x1024
  bcast_S_S32768x1024 : S_.BroadcastsInDim S32768x1024 (![] : Fin 0 → Fin S32768x1024.rank)
  slices_S1024x1536_S1024x512_0_512 : S1024x1536.Slices ![0, 512] S1024x512
  bcast_S_S1024x512 : S_.BroadcastsInDim S1024x512 (![] : Fin 0 → Fin S1024x512.rank)
  bcast_S_S8x15x31 : S_.BroadcastsInDim S8x15x31 (![] : Fin 0 → Fin S8x15x31.rank)

variable [Facts]

def fn {F : FTy → Type} [FloatOps F] (main_arg0 : FVec F S32768x1536 .bf16) (main_arg1 : FVec F S1024x1536 .bf16) (main_arg2 : FVec F S8x15x31 .f32) : IVec S32768x1024 1 × IVec S1024x512 1 × IVec S8x15x31 1 :=
  let main_v0 : FVec F S32768x1024 .bf16 := (extractStridedSlice S32768x1024 ![0, 0] · slices_S32768x1536_S32768x1024_0_0) main_arg0
  let main_v1 : FVec F S32768x1024 .bf16 := Host.absf main_v0
  let main_cst : FVec F S_ .bf16 := constant S_ .bf16 0x7F80#16
  let main_v2 : FVec F S32768x1024 .bf16 := broadcastInDim S32768x1024 ![] bcast_S_S32768x1024 main_cst
  let main_v3 : IVec S32768x1024 1 := cmpf .olt main_v1 main_v2
  let main_v4 : FVec F S1024x512 .bf16 := (extractStridedSlice S1024x512 ![0, 512] · slices_S1024x1536_S1024x512_0_512) main_arg1
  let main_v5 : FVec F S1024x512 .bf16 := Host.absf main_v4
  let main_cst_0 : FVec F S_ .bf16 := constant S_ .bf16 0x7F80#16
  let main_v6 : FVec F S1024x512 .bf16 := broadcastInDim S1024x512 ![] bcast_S_S1024x512 main_cst_0
  let main_v7 : IVec S1024x512 1 := cmpf .olt main_v5 main_v6
  let main_v8 : FVec F S8x15x31 .f32 := Host.absf main_arg2
  let main_cst_1 : FVec F S_ .f32 := constant S_ .f32 0x7F800000#32
  let main_v9 : FVec F S8x15x31 .f32 := broadcastInDim S8x15x31 ![] bcast_S_S8x15x31 main_cst_1
  let main_v10 : IVec S8x15x31 1 := cmpf .olt main_v8 main_v9
  (main_v3, main_v7, main_v10)
-- ==== Kernel.lean ====
abbrev S32768x1536 : Shape := ⟨2, ![32768, 1536]⟩
abbrev S1024x1536 : Shape := ⟨2, ![1024, 1536]⟩
abbrev S8x15x31 : Shape := ⟨3, ![8, 15, 31]⟩
abbrev S4x8192x1536 : Shape := ⟨3, ![4, 8192, 1536]⟩
abbrev S4x256x1536 : Shape := ⟨3, ![4, 256, 1536]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x64x1 : Shape := ⟨3, ![64, 64, 1]⟩
abbrev S8x15x64x64 : Shape := ⟨4, ![8, 15, 64, 64]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x8x1 : Shape := ⟨3, ![8, 8, 1]⟩
abbrev S8x8x8x64x64 : Shape := ⟨5, ![8, 8, 8, 64, 64]⟩
abbrev S8x8x64x8x64 : Shape := ⟨5, ![8, 8, 64, 8, 64]⟩
abbrev S8x8x64x512 : Shape := ⟨4, ![8, 8, 64, 512]⟩
abbrev S4x2x8x64x512 : Shape := ⟨5, ![4, 2, 8, 64, 512]⟩
abbrev S4x8x2x64x512 : Shape := ⟨5, ![4, 8, 2, 64, 512]⟩
abbrev S4x8x128x512 : Shape := ⟨4, ![4, 8, 128, 512]⟩
abbrev S1x8x128x512 : Shape := ⟨4, ![1, 8, 128, 512]⟩
abbrev S8x128x512 : Shape := ⟨3, ![8, 128, 512]⟩
abbrev S4x8192x512 : Shape := ⟨3, ![4, 8192, 512]⟩
abbrev S1x512x128 : Shape := ⟨3, ![1, 512, 128]⟩
abbrev S1x8192x128 : Shape := ⟨3, ![1, 8192, 128]⟩
abbrev S1x256x128 : Shape := ⟨3, ![1, 256, 128]⟩
abbrev S64x128 : Shape := ⟨2, ![64, 128]⟩
abbrev S128x512 : Shape := ⟨2, ![128, 512]⟩
abbrev S256x128 : Shape := ⟨2, ![256, 128]⟩
abbrev S1x64x128 : Shape := ⟨3, ![1, 64, 128]⟩
abbrev S128x128 : Shape := ⟨2, ![128, 128]⟩
abbrev S512x128 : Shape := ⟨2, ![512, 128]⟩
abbrev S1x1x128x512 : Shape := ⟨4, ![1, 1, 128, 512]⟩
abbrev S128x256 : Shape := ⟨2, ![128, 256]⟩
abbrev S128 : Shape := ⟨1, ![128]⟩
abbrev S128x1 : Shape := ⟨2, ![128, 1]⟩

abbrev nBuf : Space → Nat
  | .hbm => 56
  | .vmem => 14
  | .smem => 0
  | _ => 0

abbrev bufTy : (tb : Table) → Fin (tcTables nBuf tb) → BufTy
  | .hbm, ⟨0, _⟩ => ⟨S32768x1536, .bf16⟩
  | .hbm, ⟨1, _⟩ => ⟨S1024x1536, .bf16⟩
  | .hbm, ⟨2, _⟩ => ⟨S8x15x31, .f32⟩
  | .hbm, ⟨3, _⟩ => ⟨S4x8192x1536, .bf16⟩
  | .hbm, ⟨4, _⟩ => ⟨S4x256x1536, .bf16⟩
  | .hbm, ⟨5, _⟩ => ⟨S64, .i32⟩
  | .hbm, ⟨6, _⟩ => ⟨S64x1, .i32⟩
  | .hbm, ⟨7, _⟩ => ⟨S64, .i32⟩
  | .hbm, ⟨8, _⟩ => ⟨S1x64, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S_, .i32⟩
  | .hbm, ⟨24, _⟩ => ⟨S64x64, .i32⟩
  | .hbm, ⟨25, _⟩ => ⟨S64x64, .i1⟩
  | .hbm, ⟨26, _⟩ => ⟨S_, .i32⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S64x64x1, .i32⟩
  | .hbm, ⟨31, _⟩ => ⟨S8x15x64x64, .f32⟩
  | .hbm, ⟨32, _⟩ => ⟨S8, .i32⟩
  | .hbm, ⟨33, _⟩ => ⟨S8x1, .i32⟩
  | .hbm, ⟨34, _⟩ => ⟨S8, .i32⟩
  | .hbm, ⟨35, _⟩ => ⟨S1x8, .i32⟩
  | .hbm, ⟨36, _⟩ => ⟨S8x8, .i32⟩
  | .hbm, ⟨37, _⟩ => ⟨S8x8, .i32⟩
  | .hbm, ⟨38, _⟩ => ⟨S8x8, .i32⟩
  | .hbm, ⟨39, _⟩ => ⟨S_, .i32⟩
  | .hbm, ⟨40, _⟩ => ⟨S8x8, .i32⟩
  | .hbm, ⟨41, _⟩ => ⟨S8x8, .i1⟩
  | .hbm, ⟨42, _⟩ => ⟨S_, .i32⟩
  | .hbm, ⟨43, _⟩ => ⟨S8x8, .i32⟩
  | .hbm, ⟨44, _⟩ => ⟨S8x8, .i32⟩
  | .hbm, ⟨45, _⟩ => ⟨S8x8, .i32⟩
  | .hbm, ⟨46, _⟩ => ⟨S8x8x1, .i32⟩
  | .hbm, ⟨47, _⟩ => ⟨S8x8x8x64x64, .f32⟩
  | .hbm, ⟨48, _⟩ => ⟨S8x8x64x8x64, .f32⟩
  | .hbm, ⟨49, _⟩ => ⟨S8x8x64x512, .f32⟩
  | .hbm, ⟨50, _⟩ => ⟨S4x2x8x64x512, .f32⟩
  | .hbm, ⟨51, _⟩ => ⟨S4x8x2x64x512, .f32⟩
  | .hbm, ⟨52, _⟩ => ⟨S4x8x128x512, .f32⟩
  | .hbm, ⟨53, _⟩ => ⟨S1x8x128x512, .f32⟩
  | .hbm, ⟨54, _⟩ => ⟨S8x128x512, .f32⟩
  | .hbm, ⟨55, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x8x128x512, .f32⟩
  | .local _ .vmem, ⟨11, _⟩ => ⟨S1x8x128x512, .f32⟩
  | .local _ .vmem, ⟨12, _⟩ => ⟨S1x512x128, .bf16⟩
  | .local _ .vmem, ⟨13, _⟩ => ⟨S1x512x128, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 16], ![false, false, false]⟩

@[reducible] def k0_t1_loop : Scf.Loop 32 :=
  let c0_i32_6 : BitVec 32 := 0#32
  let c8_i32_7 : BitVec 32 := 8#32
  let v24 : BitVec 32 := Scalar.addi c0_i32_6 c8_i32_7
  let c1_i32 : BitVec 32 := 1#32
  ⟨c0_i32_6, v24, c1_i32⟩
def k0_mult1 (k0_t1 : Fin k0_t1_loop.trips) : BitVec 32 :=
  let c0_i32_6 : BitVec 32 := 0#32
  let c1_i32 : BitVec 32 := 1#32
  let arg10 : BitVec 32 := Scf.iv c0_i32_6 c1_i32 k0_t1
  let c64_i32_11 : BitVec 32 := 64#32
  let v30 : BitVec 32 := Scalar.muli arg10 c64_i32_11
  v30
def k0_off1 (k0_t1 : Fin k0_t1_loop.trips) : Fin 3 → Nat :=
  let c0_12 : Index := 0#32
  let c0_i32_6 : BitVec 32 := 0#32
  let c1_i32 : BitVec 32 := 1#32
  let arg10 : BitVec 32 := Scf.iv c0_i32_6 c1_i32 k0_t1
  let c64_i32_11 : BitVec 32 := 64#32
  let v30 : BitVec 32 := Scalar.muli arg10 c64_i32_11
  let v31 : BitVec 32 := v30
  let v32 : Index := Scalar.indexCast v31
  let c0_13 : Index := 0#32
  ![0, v32.toNat, 0]
def k0_mult2 (i : grid0.Coords) (k0_t1 : Fin k0_t1_loop.trips) : BitVec 32 :=
  let c120_i32 : BitVec 32 := 120#32
  let c0_i32_10 : BitVec 32 := 0#32
  let arg2 : BitVec 32 := BitVec.ofNat 32 (i 2).val
  let c8_i32_9 : BitVec 32 := 8#32
  let v25 : BitVec 32 := Scalar.muli arg2 c8_i32_9
  let c0_i32_6 : BitVec 32 := 0#32
  let c1_i32 : BitVec 32 := 1#32
  let arg10 : BitVec 32 := Scf.iv c0_i32_6 c1_i32 k0_t1
  let v26 : BitVec 32 := Scalar.addi v25 arg10
  let c4_i32 : BitVec 32 := 4#32
  let v27 : BitVec 32 := Scalar.subi v26 c4_i32
  let v28 : BitVec 32 := Scalar.maxsi c0_i32_10 v27
  let v29 : BitVec 32 := Scalar.minsi c120_i32 v28
  let c64_i32_15 : BitVec 32 := 64#32
  let v41 : BitVec 32 := Scalar.muli v29 c64_i32_15
  v41
def k0_off2 (i : grid0.Coords) (k0_t1 : Fin k0_t1_loop.trips) : Fin 3 → Nat :=
  let c0_16 : Index := 0#32
  let c120_i32 : BitVec 32 := 120#32
  let c0_i32_10 : BitVec 32 := 0#32
  let arg2 : BitVec 32 := BitVec.ofNat 32 (i 2).val
  let c8_i32_9 : BitVec 32 := 8#32
  let v25 : BitVec 32 := Scalar.muli arg2 c8_i32_9
  let c0_i32_6 : BitVec 32 := 0#32
  let c1_i32 : BitVec 32 := 1#32
  let arg10 : BitVec 32 := Scf.iv c0_i32_6 c1_i32 k0_t1
  let v26 : BitVec 32 := Scalar.addi v25 arg10
  let c4_i32 : BitVec 32 := 4#32
  let v27 : BitVec 32 := Scalar.subi v26 c4_i32
  let v28 : BitVec 32 := Scalar.maxsi c0_i32_10 v27
  let v29 : BitVec 32 := Scalar.minsi c120_i32 v28
  let c64_i32_15 : BitVec 32 := 64#32
  let v41 : BitVec 32 := Scalar.muli v29 c64_i32_15
  let v42 : BitVec 32 := v41
  let v43 : Index := Scalar.indexCast v42
  let c0_17 : Index := 0#32
  ![0, v43.toNat, 0]
def k0_off3 (i : grid0.Coords) (k0_t1 : Fin k0_t1_loop.trips) : Fin 4 → Nat :=
  let c0_20 : Index := 0#32
  let c120_i32 : BitVec 32 := 120#32
  let c0_i32_10 : BitVec 32 := 0#32
  let arg2 : BitVec 32 := BitVec.ofNat 32 (i 2).val
  let c8_i32_9 : BitVec 32 := 8#32
  let v25 : BitVec 32 := Scalar.muli arg2 c8_i32_9
  let c0_i32_6 : BitVec 32 := 0#32
  let c1_i32 : BitVec 32 := 1#32
  let arg10 : BitVec 32 := Scf.iv c0_i32_6 c1_i32 k0_t1
  let v26 : BitVec 32 := Scalar.addi v25 arg10
  let c4_i32 : BitVec 32 := 4#32
  let v27 : BitVec 32 := Scalar.subi v26 c4_i32
  let v28 : BitVec 32 := Scalar.maxsi c0_i32_10 v27
  let v29 : BitVec 32 := Scalar.minsi c120_i32 v28
  let v49 : BitVec 32 := Scalar.subi v29 v26
  let c7_i32 : BitVec 32 := 7#32
  let v50 : BitVec 32 := Scalar.addi v49 c7_i32
  let v51 : Index := Scalar.indexCast v50
  let c0_21 : Index := 0#32
  let c0_22 : Index := 0#32
  ![0, v51.toNat, 0, 0]
def k0_mult3 (k0_t1 : Fin k0_t1_loop.trips) : BitVec 32 :=
  let c0_i32_6 : BitVec 32 := 0#32
  let c1_i32 : BitVec 32 := 1#32
  let arg10 : BitVec 32 := Scf.iv c0_i32_6 c1_i32 k0_t1
  let c64_i32_32 : BitVec 32 := 64#32
  let v86 : BitVec 32 := Scalar.muli arg10 c64_i32_32
  v86
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x1536 : Shape := ⟨2, ![32768, 1536]⟩
abbrev S1024x1536 : Shape := ⟨2, ![1024, 1536]⟩
abbrev S8x15x31 : Shape := ⟨3, ![8, 15, 31]⟩
abbrev S4x8192x1536 : Shape := ⟨3, ![4, 8192, 1536]⟩
abbrev S4x8192x512 : Shape := ⟨3, ![4, 8192, 512]⟩
abbrev S4x256x1536 : Shape := ⟨3, ![4, 256, 1536]⟩
abbrev S4x256x512 : Shape := ⟨3, ![4, 256, 512]⟩
abbrev S4x8192x8x64 : Shape := ⟨4, ![4, 8192, 8, 64]⟩
abbrev S4x256x8x64 : Shape := ⟨4, ![4, 256, 8, 64]⟩
abbrev S4x128x64x8x64 : Shape := ⟨5, ![4, 128, 64, 8, 64]⟩
abbrev S_ : Shape := ⟨0, ![]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128x8x1 : Shape := ⟨3, ![128, 8, 1]⟩
abbrev S4x128x8x64x8x64 : Shape := ⟨6, ![4, 128, 8, 64, 8, 64]⟩
abbrev S64x16x1 : Shape := ⟨3, ![64, 16, 1]⟩
abbrev S1x1x64 : Shape := ⟨3, ![1, 1, 64]⟩
abbrev S64x16x64 : Shape := ⟨3, ![64, 16, 64]⟩
abbrev S4x8x128x64x8x64 : Shape := ⟨6, ![4, 8, 128, 64, 8, 64]⟩
abbrev S64x16x4x8x128x8 : Shape := ⟨6, ![64, 16, 4, 8, 128, 8]⟩
abbrev S4x8x128x64x8x16 : Shape := ⟨6, ![4, 8, 128, 64, 8, 16]⟩
abbrev S128x1x8x1 : Shape := ⟨4, ![128, 1, 8, 1]⟩
abbrev S1x64x1x16 : Shape := ⟨4, ![1, 64, 1, 16]⟩
abbrev S128x64x8x16 : Shape := ⟨4, ![128, 64, 8, 16]⟩
abbrev S128x64x8x16x1 : Shape := ⟨5, ![128, 64, 8, 16, 1]⟩
abbrev S128x64x8x16x2 : Shape := ⟨5, ![128, 64, 8, 16, 2]⟩
abbrev S8x128x64x8x16 : Shape := ⟨5, ![8, 128, 64, 8, 16]⟩
abbrev S1x8x128x64x8x16 : Shape := ⟨6, ![1, 8, 128, 64, 8, 16]⟩
abbrev S4x8x128x64x256 : Shape := ⟨5, ![4, 8, 128, 64, 256]⟩
abbrev S4x8x128x64x128 : Shape := ⟨5, ![4, 8, 128, 64, 128]⟩
abbrev S4x8x128x64x384 : Shape := ⟨5, ![4, 8, 128, 64, 384]⟩
abbrev S4x8x128x64 : Shape := ⟨4, ![4, 8, 128, 64]⟩
abbrev S4x8x128x64x1 : Shape := ⟨5, ![4, 8, 128, 64, 1]⟩
abbrev S64x64x4x8x128x8 : Shape := ⟨6, ![64, 64, 4, 8, 128, 8]⟩
abbrev S4x128x8x64x64 : Shape := ⟨5, ![4, 128, 8, 64, 64]⟩
abbrev S4x8x64x128x64 : Shape := ⟨5, ![4, 8, 64, 128, 64]⟩

abbrev nBuf : Space → Nat
  | .hbm => 156
  | .vmem => 0
  | .smem => 0
  | _ => 0

abbrev hbmTy0_0 (i : Nat) : BufTy := match i % 128 with
  | 0 => ⟨S32768x1536, .bf16⟩
  | 1 => ⟨S1024x1536, .bf16⟩
  | 2 => ⟨S8x15x31, .f32⟩
  | 3 => ⟨S32768x1536, .f32⟩
  | 4 => ⟨S4x8192x1536, .f32⟩
  | 5 => ⟨S4x8192x512, .f32⟩
  | 6 => ⟨S4x8192x512, .f32⟩
  | 7 => ⟨S4x8192x512, .f32⟩
  | 8 => ⟨S1024x1536, .f32⟩
  | 9 => ⟨S4x256x1536, .f32⟩
  | 10 => ⟨S4x256x512, .f32⟩
  | 11 => ⟨S4x256x512, .f32⟩
  | 12 => ⟨S4x256x512, .f32⟩
  | 13 => ⟨S4x8192x8x64, .f32⟩
  | 14 => ⟨S4x8192x8x64, .f32⟩
  | 15 => ⟨S4x8192x8x64, .f32⟩
  | 16 => ⟨S4x256x8x64, .f32⟩
  | 17 => ⟨S4x256x8x64, .f32⟩
  | 18 => ⟨S4x128x64x8x64, .f32⟩
  | 19 => ⟨S_, .f32⟩
  | 20 => ⟨S4x128x64x8x64, .f32⟩
  | 21 => ⟨S4x128x64x8x64, .f32⟩
  | 22 => ⟨S4x128x64x8x64, .f32⟩
  | 23 => ⟨S4x128x64x8x64, .f32⟩
  | 24 => ⟨S128, .i32⟩
  | 25 => ⟨S_, .i32⟩
  | 26 => ⟨S128, .i32⟩
  | 27 => ⟨S128, .i32⟩
  | 28 => ⟨S_, .i32⟩
  | 29 => ⟨S_, .i32⟩
  | 30 => ⟨S_, .i32⟩
  | 31 => ⟨S128, .i32⟩
  | 32 => ⟨S128, .i32⟩
  | 33 => ⟨S_, .i32⟩
  | 34 => ⟨S128, .i32⟩
  | 35 => ⟨S128, .i32⟩
  | 36 => ⟨S128x1, .i32⟩
  | 37 => ⟨S8, .i32⟩
  | 38 => ⟨S1x8, .i32⟩
  | 39 => ⟨S128x8, .i32⟩
  | 40 => ⟨S128x8, .i32⟩
  | 41 => ⟨S128x8, .i32⟩
  | 42 => ⟨S64, .i32⟩
  | 43 => ⟨S_, .i32⟩
  | 44 => ⟨S64, .i32⟩
  | 45 => ⟨S64, .i32⟩
  | 46 => ⟨S_, .i32⟩
  | 47 => ⟨S_, .i32⟩
  | 48 => ⟨S_, .i32⟩
  | 49 => ⟨S64, .i32⟩
  | 50 => ⟨S64, .i32⟩
  | 51 => ⟨S_, .i32⟩
  | 52 => ⟨S64, .i32⟩
  | 53 => ⟨S64, .i32⟩
  | 54 => ⟨S64x1, .i32⟩
  | 55 => ⟨S16, .i32⟩
  | 56 => ⟨S1x16, .i32⟩
  | 57 => ⟨S64x16, .i32⟩
  | 58 => ⟨S64x16, .i32⟩
  | 59 => ⟨S64x16, .i32⟩
  | 60 => ⟨S_, .i32⟩
  | 61 => ⟨S128x8, .i32⟩
  | 62 => ⟨S128x8, .i1⟩
  | 63 => ⟨S_, .i32⟩
  | 64 => ⟨S128x8, .i32⟩
  | 65 => ⟨S128x8, .i32⟩
  | 66 => ⟨S128x8, .i32⟩
  | 67 => ⟨S128x8x1, .i32⟩
  | 68 => ⟨S4x128x8x64x8x64, .f32⟩
  | 69 => ⟨S_, .i32⟩
  | 70 => ⟨S128x8, .i32⟩
  | 71 => ⟨S128x8, .i1⟩
  | 72 => ⟨S_, .i32⟩
  | 73 => ⟨S128x8, .i32⟩
  | 74 => ⟨S128x8, .i32⟩
  | 75 => ⟨S128x8, .i32⟩
  | 76 => ⟨S128x8x1, .i32⟩
  | 77 => ⟨S4x128x8x64x8x64, .f32⟩
  | 78 => ⟨S64x16x1, .i32⟩
  | 79 => ⟨S64, .i32⟩
  | 80 => ⟨S1x1x64, .i32⟩
  | 81 => ⟨S64x16x64, .i32⟩
  | 82 => ⟨S64x16x64, .i32⟩
  | 83 => ⟨S64x16x64, .i1⟩
  | 84 => ⟨S64x16x64, .f32⟩
  | 85 => ⟨S4x8x128x64x8x64, .f32⟩
  | 86 => ⟨S64x16x4x8x128x8, .f32⟩
  | 87 => ⟨S4x8x128x64x8x16, .f32⟩
  | 88 => ⟨S128, .i32⟩
  | 89 => ⟨S128x1, .i32⟩
  | 90 => ⟨S128x8, .i32⟩
  | 91 => ⟨S128x8, .i32⟩
  | 92 => ⟨S_, .i32⟩
  | 93 => ⟨S128x8, .i32⟩
  | 94 => ⟨S128x8, .i32⟩
  | 95 => ⟨S64, .i32⟩
  | 96 => ⟨S64x1, .i32⟩
  | 97 => ⟨S64x16, .i32⟩
  | 98 => ⟨S64x16, .i32⟩
  | 99 => ⟨S_, .i32⟩
  | 100 => ⟨S64x16, .i32⟩
  | 101 => ⟨S64x16, .i32⟩
  | 102 => ⟨S128x1x8x1, .i32⟩
  | 103 => ⟨S1x64x1x16, .i32⟩
  | 104 => ⟨S_, .i32⟩
  | 105 => ⟨S128x1x8x1, .i32⟩
  | 106 => ⟨S128x1x8x1, .i1⟩
  | 107 => ⟨S_, .i32⟩
  | 108 => ⟨S128x1x8x1, .i32⟩
  | 109 => ⟨S128x1x8x1, .i32⟩
  | 110 => ⟨S128x1x8x1, .i32⟩
  | 111 => ⟨S_, .i32⟩
  | 112 => ⟨S1x64x1x16, .i32⟩
  | 113 => ⟨S1x64x1x16, .i1⟩
  | 114 => ⟨S_, .i32⟩
  | 115 => ⟨S1x64x1x16, .i32⟩
  | 116 => ⟨S1x64x1x16, .i32⟩
  | 117 => ⟨S1x64x1x16, .i32⟩
  | 118 => ⟨S128x64x8x16, .i32⟩
  | 119 => ⟨S128x64x8x16, .i32⟩
  | 120 => ⟨S128x64x8x16x1, .i32⟩
  | 121 => ⟨S128x64x8x16x1, .i32⟩
  | 122 => ⟨S128x64x8x16x2, .i32⟩
  | 123 => ⟨S8x128x64x8x16, .f32⟩
  | 124 => ⟨S1x8x128x64x8x16, .f32⟩
  | 125 => ⟨S4x8x128x64x8x16, .f32⟩
  | 126 => ⟨S4x8x128x64x8x16, .f32⟩
  | 127 => ⟨S4x8x128x64x256, .f32⟩
  | _ => ⟨S32768x1536, .bf16⟩

abbrev hbmTy0_1 (i : Nat) : BufTy := match i % 128 with
  | 0 => ⟨S4x8x128x64x128, .f32⟩
  | 1 => ⟨S4x8x128x64x384, .f32⟩
  | 2 => ⟨S_, .f32⟩
  | 3 => ⟨S4x8x128x64, .f32⟩
  | 4 => ⟨S_, .f32⟩
  | 5 => ⟨S4x8x128x64, .f32⟩
  | 6 => ⟨S4x8x128x64, .f32⟩
  | 7 => ⟨S4x8x128x64x1, .f32⟩
  | 8 => ⟨S4x8x128x64x384, .f32⟩
  | 9 => ⟨S4x8x128x64x384, .f32⟩
  | 10 => ⟨S4x8x128x64x384, .f32⟩
  | 11 => ⟨S_, .f32⟩
  | 12 => ⟨S4x8x128x64, .f32⟩
  | 13 => ⟨S4x8x128x64x1, .f32⟩
  | 14 => ⟨S4x8x128x64x384, .f32⟩
  | 15 => ⟨S4x8x128x64x384, .f32⟩
  | 16 => ⟨S4x8x128x64x128, .f32⟩
  | 17 => ⟨S4x8x128x64x8x16, .f32⟩
  | 18 => ⟨S64x64x4x8x128x8, .f32⟩
  | 19 => ⟨S4x8x128x64x8x64, .f32⟩
  | 20 => ⟨S4x128x8x64x64, .f32⟩
  | 21 => ⟨S4x128x64x8x64, .f32⟩
  | 22 => ⟨S4x8x128x64x256, .f32⟩
  | 23 => ⟨S4x8x64x128x64, .f32⟩
  | 24 => ⟨S4x128x64x8x64, .f32⟩
  | 25 => ⟨S4x128x64x8x64, .f32⟩
  | 26 => ⟨S4x8192x512, .f32⟩
  | 27 => ⟨S4x8192x512, .bf16⟩
  | _ => ⟨S32768x1536, .bf16⟩

abbrev hbmTy (i : Nat) : BufTy := match i / 128 with
  | 0 => hbmTy0_0 i
  | 1 => hbmTy0_1 i
  | _ => ⟨S32768x1536, .bf16⟩

abbrev bufTy : (tb : Table) → Fin (tcTables nBuf tb) → BufTy
  | .hbm, ⟨i, _⟩ => hbmTy i
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_c_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_10 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_11 : Ref sig .tc := ⟨.hbm, 104, rfl⟩
abbrev main_v78 : Ref sig .tc := ⟨.hbm, 105, rfl⟩
abbrev main_v79 : Ref sig .tc := ⟨.hbm, 106, rfl⟩
abbrev main_c_12 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_13 : Ref sig .tc := ⟨.hbm, 111, rfl⟩
abbrev main_v83 : Ref sig .tc := ⟨.hbm, 112, rfl⟩
abbrev main_v84 : Ref sig .tc := ⟨.hbm, 113, rfl⟩
abbrev main_c_14 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_15 : Ref sig .tc := ⟨.hbm, 130, rfl⟩
abbrev main_v100 : Ref sig .tc := ⟨.hbm, 131, rfl⟩
abbrev main_cst_16 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_17 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩

abbrev nD : Nat := 1
abbrev τ : Topo := Topo.v7x

variable {F : FTy → Type} [FloatOps F]
-- ==== Ffn.lean ====
abbrev S32768x1024 : Shape := ⟨2, ![32768, 1024]⟩
abbrev S8x9x1024 : Shape := ⟨3, ![8, 9, 1024]⟩
abbrev S6x1024 : Shape := ⟨2, ![6, 1024]⟩
abbrev S1024x2816 : Shape := ⟨2, ![1024, 2816]⟩
abbrev S2816x1024 : Shape := ⟨2, ![2816, 1024]⟩
abbrev S512x1024 : Shape := ⟨2, ![512, 1024]⟩
abbrev S1x9x1024 : Shape := ⟨3, ![1, 9, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S8x9x1024, .f32⟩
  | .hbm, ⟨2, _⟩ => ⟨S6x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32768x1024 : Shape := ⟨2, ![32768, 1024]⟩
abbrev S8x9x1024 : Shape := ⟨3, ![8, 9, 1024]⟩
abbrev S6x1024 : Shape := ⟨2, ![6, 1024]⟩
abbrev S1024x2816 : Shape := ⟨2, ![1024, 2816]⟩
abbrev S2816x1024 : Shape := ⟨2, ![2816, 1024]⟩
abbrev S4x9x1024 : Shape := ⟨3, ![4, 9, 1024]⟩
abbrev S4x9x1x1024 : Shape := ⟨4, ![4, 9, 1, 1024]⟩
abbrev S4x8192x1024 : Shape := ⟨3, ![4, 8192, 1024]⟩
abbrev S1x1024 : Shape := ⟨2, ![1, 1024]⟩
abbrev S1024 : Shape := ⟨1, ![1024]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩

abbrev nBuf : Space → Nat
  | .hbm => 78
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x9x1024, .f32⟩
  | .hbm, ⟨2, _⟩ => ⟨S6x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4x9x1024, .f32⟩
  | .hbm, ⟨7, _⟩ => ⟨S4x9x1x1024, .f32⟩
  | .hbm, ⟨8, _⟩ => ⟨S4x8192x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S4x1x1x1024, .f32⟩
  | .hbm, ⟨14, _⟩ => ⟨S4x1x1024, .f32⟩
  | .hbm, ⟨15, _⟩ => ⟨S4x1x1x1024, .f32⟩
  | .hbm, ⟨16, _⟩ => ⟨S4x1x1024, .f32⟩
  | .hbm, ⟨17, _⟩ => ⟨S4x1x1x1024, .f32⟩
  | .hbm, ⟨18, _⟩ => ⟨S4x1x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x2816, .f32⟩
  | .hbm, ⟨43, _⟩ => ⟨S4x8192x2816, .f32⟩
  | .hbm, ⟨44, _⟩ => ⟨S4x8192x2816, .f32⟩
  | .hbm, ⟨45, _⟩ => ⟨S_, .f32⟩
  | .hbm, ⟨46, _⟩ => ⟨S4x8192x2816, .f32⟩
  | .hbm, ⟨47, _⟩ => ⟨S4x8192x2816, .f32⟩
  | .hbm, ⟨48, _⟩ => ⟨S_, .f32⟩
  | .hbm, ⟨49, _⟩ => ⟨S4x8192x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S4x8192x2816, .f32⟩
  | .hbm, ⟨54, _⟩ => ⟨S4x8192x1024, .f32⟩
  | .hbm, ⟨55, _⟩ => ⟨S_, .f32⟩
  | .hbm, ⟨56, _⟩ => ⟨S4x1x1024, .f32⟩
  | .hbm, ⟨57, _⟩ => ⟨S4x1x1024, .f32⟩
  | .hbm, ⟨58, _⟩ => ⟨S4x8192x1024, .f32⟩
  | .hbm, ⟨59, _⟩ => ⟨S_, .f32⟩
  | .hbm, ⟨60, _⟩ => ⟨S4x8192, .f32⟩
  | .hbm, ⟨61, _⟩ => ⟨S4x8192x1, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S4x8192x1, .f32⟩
  | .hbm, ⟨69, _⟩ => ⟨S4x8192x1024, .f32⟩
  | .hbm, ⟨70, _⟩ => ⟨S4x8192x1024, .f32⟩
  | .hbm, ⟨71, _⟩ => ⟨S1x1x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== InAb.lean ====
abbrev S32768x1024 : Shape := ⟨2, ![32768, 1024]⟩
abbrev S8x9x1024 : Shape := ⟨3, ![8, 9, 1024]⟩
abbrev S6x1024 : Shape := ⟨2, ![6, 1024]⟩
abbrev S1024x3072 : Shape := ⟨2, ![1024, 3072]⟩
abbrev S32768x1536 : Shape := ⟨2, ![32768, 1536]⟩
abbrev S512x1024 : Shape := ⟨2, ![512, 1024]⟩
abbrev S1x9x1024 : Shape := ⟨3, ![1, 9, 1024]⟩
abbrev S512x1536 : Shape := ⟨2, ![512, 1536]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S8x9x1024, .f32⟩
  | .hbm, ⟨2, _⟩ => ⟨S6x1024, .f32⟩
  | .hbm, ⟨3, _⟩ => ⟨S1024x3072, .f32⟩
  | .hbm, ⟨4, _⟩ => ⟨S1024x3072, .bf16⟩
  | .hbm, ⟨5, _⟩ => ⟨S32768x1536, .bf16⟩
  | .hbm, ⟨6, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1024x3072, .bf16⟩
  | .local _ .vmem, ⟨6, _⟩ => ⟨S512x1536, .bf16⟩
  | .local _ .vmem, ⟨7, _⟩ => ⟨S512x1536, .bf16⟩
  | .local _ .vmem, ⟨8, _⟩ => ⟨S512x1536, .f32⟩
  | .local _ .vmem, ⟨9, _⟩ => ⟨S512x1536, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InAbRefIdeal.lean ====
abbrev S32768x1024 : Shape := ⟨2, ![32768, 1024]⟩
abbrev S8x9x1024 : Shape := ⟨3, ![8, 9, 1024]⟩
abbrev S6x1024 : Shape := ⟨2, ![6, 1024]⟩
abbrev S1024x3072 : Shape := ⟨2, ![1024, 3072]⟩
abbrev S4x9x1024 : Shape := ⟨3, ![4, 9, 1024]⟩
abbrev S4x9x1x1024 : Shape := ⟨4, ![4, 9, 1, 1024]⟩
abbrev S4x8192x1024 : Shape := ⟨3, ![4, 8192, 1024]⟩
abbrev S1x1024 : Shape := ⟨2, ![1, 1024]⟩
abbrev S1024 : Shape := ⟨1, ![1024]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S32768x3072 : Shape := ⟨2, ![32768, 3072]⟩
abbrev S32768x1536 : Shape := ⟨2, ![32768, 1536]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x9x1024, .f32⟩
  | .hbm, ⟨2, _⟩ => ⟨S6x1024, .f32⟩
  | .hbm, ⟨3, _⟩ => ⟨S1024x3072, .f32⟩
  | .hbm, ⟨4, _⟩ => ⟨S4x9x1024, .f32⟩
  | .hbm, ⟨5, _⟩ => ⟨S4x9x1x1024, .f32⟩
  | .hbm, ⟨6, _⟩ => ⟨S4x8192x1024, .f32⟩
  | .hbm, ⟨7, _⟩ => ⟨S1x1024, .f32⟩
  | .hbm, ⟨8, _⟩ => ⟨S1024, .f32⟩
  | .hbm, ⟨9, _⟩ => ⟨S4x1x1x1024, .f32⟩
  | .hbm, ⟨10, _⟩ => ⟨S4x1x1024, .f32⟩
  | .hbm, ⟨11, _⟩ => ⟨S4x1x1x1024, .f32⟩
  | .hbm, ⟨12, _⟩ => ⟨S4x1x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x3072, .f32⟩
  | .hbm, ⟨37, _⟩ => ⟨S32768x3072, .f32⟩
  | .hbm, ⟨38, _⟩ => ⟨S32768x1536, .f32⟩
  | .hbm, ⟨39, _⟩ => ⟨S32768x1536, .bf16⟩
  | .hbm, ⟨40, _⟩ => ⟨S32768x1536, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== InHy.lean ====
abbrev S32768x1024 : Shape := ⟨2, ![32768, 1024]⟩
abbrev S8x9x1024 : Shape := ⟨3, ![8, 9, 1024]⟩
abbrev S6x1024 : Shape := ⟨2, ![6, 1024]⟩
abbrev S1024x3072 : Shape := ⟨2, ![1024, 3072]⟩
abbrev S32768x3072 : Shape := ⟨2, ![32768, 3072]⟩
abbrev S512x1024 : Shape := ⟨2, ![512, 1024]⟩
abbrev S1x9x1024 : Shape := ⟨3, ![1, 9, 1024]⟩
abbrev S512x3072 : Shape := ⟨2, ![512, 3072]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S8x9x1024, .f32⟩
  | .hbm, ⟨2, _⟩ => ⟨S6x1024, .f32⟩
  | .hbm, ⟨3, _⟩ => ⟨S1024x3072, .f32⟩
  | .hbm, ⟨4, _⟩ => ⟨S1024x3072, .bf16⟩
  | .hbm, ⟨5, _⟩ => ⟨S32768x3072, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1024x3072, .bf16⟩
  | .local _ .vmem, ⟨6, _⟩ => ⟨S512x3072, .f32⟩
  | .local _ .vmem, ⟨7, _⟩ => ⟨S512x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InHyRefIdeal.lean ====
abbrev S32768x1024 : Shape := ⟨2, ![32768, 1024]⟩
abbrev S8x9x1024 : Shape := ⟨3, ![8, 9, 1024]⟩
abbrev S6x1024 : Shape := ⟨2, ![6, 1024]⟩
abbrev S1024x3072 : Shape := ⟨2, ![1024, 3072]⟩
abbrev S4x9x1024 : Shape := ⟨3, ![4, 9, 1024]⟩
abbrev S4x9x1x1024 : Shape := ⟨4, ![4, 9, 1, 1024]⟩
abbrev S4x8192x1024 : Shape := ⟨3, ![4, 8192, 1024]⟩
abbrev S1x1024 : Shape := ⟨2, ![1, 1024]⟩
abbrev S1024 : Shape := ⟨1, ![1024]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S32768x3072 : Shape := ⟨2, ![32768, 3072]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x9x1024, .f32⟩
  | .hbm, ⟨2, _⟩ => ⟨S6x1024, .f32⟩
  | .hbm, ⟨3, _⟩ => ⟨S1024x3072, .f32⟩
  | .hbm, ⟨4, _⟩ => ⟨S4x9x1024, .f32⟩
  | .hbm, ⟨5, _⟩ => ⟨S4x9x1x1024, .f32⟩
  | .hbm, ⟨6, _⟩ => ⟨S4x8192x1024, .f32⟩
  | .hbm, ⟨7, _⟩ => ⟨S1x1024, .f32⟩
  | .hbm, ⟨8, _⟩ => ⟨S1024, .f32⟩
  | .hbm, ⟨9, _⟩ => ⟨S4x1x1x1024, .f32⟩
  | .hbm, ⟨10, _⟩ => ⟨S4x1x1024, .f32⟩
  | .hbm, ⟨11, _⟩ => ⟨S4x1x1x1024, .f32⟩
  | .hbm, ⟨12, _⟩ => ⟨S4x1x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x3072, .f32⟩
  | .hbm, ⟨37, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== OutHy.lean ====
abbrev S32768x1024 : Shape := ⟨2, ![32768, 1024]⟩
abbrev S1024x1024 : Shape := ⟨2, ![1024, 1024]⟩
abbrev S8x9x1024 : Shape := ⟨3, ![8, 9, 1024]⟩
abbrev S6x1024 : Shape := ⟨2, ![6, 1024]⟩
abbrev S512x1024 : Shape := ⟨2, ![512, 1024]⟩
abbrev S1x9x1024 : Shape := ⟨3, ![1, 9, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S8x9x1024, .f32⟩
  | .hbm, ⟨4, _⟩ => ⟨S6x1024, .f32⟩
  | .hbm, ⟨5, _⟩ => ⟨S1024x1024, .bf16⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x9x1024, .f32⟩
  | .local _ .vmem, ⟨6, _⟩ => ⟨S1x9x1024, .f32⟩
  | .local _ .vmem, ⟨7, _⟩ => ⟨S6x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutHyRefIdeal.lean ====
abbrev S32768x1024 : Shape := ⟨2, ![32768, 1024]⟩
abbrev S1024x1024 : Shape := ⟨2, ![1024, 1024]⟩
abbrev S8x9x1024 : Shape := ⟨3, ![8, 9, 1024]⟩
abbrev S6x1024 : Shape := ⟨2, ![6, 1024]⟩
abbrev S4x9x1024 : Shape := ⟨3, ![4, 9, 1024]⟩
abbrev S4x9x1x1024 : Shape := ⟨4, ![4, 9, 1, 1024]⟩
abbrev S4x8192x1024 : Shape := ⟨3, ![4, 8192, 1024]⟩
abbrev S4x1x1x1024 : Shape := ⟨4, ![4, 1, 1, 1024]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S8x9x1024, .f32⟩
  | .hbm, ⟨4, _⟩ => ⟨S6x1024, .f32⟩
  | .hbm, ⟨5, _⟩ => ⟨S4x9x1024, .f32⟩
  | .hbm, ⟨6, _⟩ => ⟨S4x9x1x1024, .f32⟩
  | .hbm, ⟨7, _⟩ => ⟨S4x8192x1024, .f32⟩
  | .hbm, ⟨8, _⟩ => ⟨S4x1x1x1024, .f32⟩
  | .hbm, ⟨9, _⟩ => ⟨S4x1x1024, .f32⟩
  | .hbm, ⟨10, _⟩ => ⟨S4x8192x1024, .f32⟩
  | .hbm, ⟨11, _⟩ => ⟨S4x8192x1024, .f32⟩
  | .hbm, ⟨12, _⟩ => ⟨S1x1024, .f32⟩
  | .hbm, ⟨13, _⟩ => ⟨S1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== OutAb.lean ====
abbrev S32768x512 : Shape := ⟨2, ![32768, 512]⟩
abbrev S32768x1536 : Shape := ⟨2, ![32768, 1536]⟩
abbrev S3x512 : Shape := ⟨2, ![3, 512]⟩
abbrev S1024x1024 : Shape := ⟨2, ![1024, 1024]⟩
abbrev S32768x1024 : Shape := ⟨2, ![32768, 1024]⟩
abbrev S8x9x1024 : Shape := ⟨3, ![8, 9, 1024]⟩
abbrev S6x1024 : Shape := ⟨2, ![6, 1024]⟩
abbrev S512x512 : Shape := ⟨2, ![512, 512]⟩
abbrev S512x1536 : Shape := ⟨2, ![512, 1536]⟩
abbrev S8x1536 : Shape := ⟨2, ![8, 1536]⟩
abbrev S512x1024 : Shape := ⟨2, ![512, 1024]⟩
abbrev S1x9x1024 : Shape := ⟨3, ![1, 9, 1024]⟩
abbrev S1x512 : Shape := ⟨2, ![1, 512]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S32768x512, .bf16⟩
  | .hbm, ⟨1, _⟩ => ⟨S32768x1536, .f32⟩
  | .hbm, ⟨2, _⟩ => ⟨S3x512, .f32⟩
  | .hbm, ⟨3, _⟩ => ⟨S1024x1024, .f32⟩
  | .hbm, ⟨4, _⟩ => ⟨S32768x1024, .f32⟩
  | .hbm, ⟨5, _⟩ => ⟨S8x9x1024, .f32⟩
  | .hbm, ⟨6, _⟩ => ⟨S6x1024, .f32⟩
  | .hbm, ⟨7, _⟩ => ⟨S1024x1024, .bf16⟩
  | .hbm, ⟨8, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x1536, .f32⟩
  | .local _ .vmem, ⟨3, _⟩ => ⟨S512x1536, .f32⟩
  | .local _ .vmem, ⟨4, _⟩ => ⟨S8x1536, .f32⟩
  | .local _ .vmem, ⟨5, _⟩ => ⟨S8x1536, .f32⟩
  | .local _ .vmem, ⟨6, _⟩ => ⟨S8x1536, .f32⟩
  | .local _ .vmem, ⟨7, _⟩ => ⟨S8x1536, .f32⟩
  | .local _ .vmem, ⟨8, _⟩ => ⟨S3x512, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1x9x1024, .f32⟩
  | .local _ .vmem, ⟨13, _⟩ => ⟨S1x9x1024, .f32⟩
  | .local _ .vmem, ⟨14, _⟩ => ⟨S6x1024, .f32⟩
  | .local _ .vmem, ⟨15, _⟩ => ⟨S512x1024, .f32⟩
  | .local _ .vmem, ⟨16, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S6x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutAbRefIdeal.lean ====
abbrev S32768x512 : Shape := ⟨2, ![32768, 512]⟩
abbrev S32768x1536 : Shape := ⟨2, ![32768, 1536]⟩
abbrev S3x512 : Shape := ⟨2, ![3, 512]⟩
abbrev S1024x1024 : Shape := ⟨2, ![1024, 1024]⟩
abbrev S32768x1024 : Shape := ⟨2, ![32768, 1024]⟩
abbrev S8x9x1024 : Shape := ⟨3, ![8, 9, 1024]⟩
abbrev S6x1024 : Shape := ⟨2, ![6, 1024]⟩
abbrev S4x9x1024 : Shape := ⟨3, ![4, 9, 1024]⟩
abbrev S4x9x1x1024 : Shape := ⟨4, ![4, 9, 1, 1024]⟩
abbrev S4x8192x1536 : Shape := ⟨3, ![4, 8192, 1536]⟩
abbrev S4x8192x512 : Shape := ⟨3, ![4, 8192, 512]⟩
abbrev S_ : Shape := ⟨0, ![]⟩
abbrev S4x8194x512 : Shape := ⟨3, ![4, 8194, 512]⟩
abbrev S1x512 : Shape := ⟨2, ![1, 512]⟩
abbrev S512 : Shape := ⟨1, ![512]⟩
abbrev S1x1x512 : Shape := ⟨3, ![1, 1, 512]⟩
abbrev S4x8192x1024 : Shape := ⟨3, ![4, 8192, 1024]⟩
abbrev S4x1x1x1024 : Shape := ⟨4, ![4, 1, 1, 1024]⟩
abbrev S4x1x1024 : Shape := ⟨3, ![4, 1, 1024]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x1536, .f32⟩
  | .hbm, ⟨2, _⟩ => ⟨S3x512, .f32⟩
  | .hbm, ⟨3, _⟩ => ⟨S1024x1024, .f32⟩
  | .hbm, ⟨4, _⟩ => ⟨S32768x1024, .f32⟩
  | .hbm, ⟨5, _⟩ => ⟨S8x9x1024, .f32⟩
  | .hbm, ⟨6, _⟩ => ⟨S6x1024, .f32⟩
  | .hbm, ⟨7, _⟩ => ⟨S4x9x1024, .f32⟩
  | .hbm, ⟨8, _⟩ => ⟨S4x9x1x1024, .f32⟩
  | .hbm, ⟨9, _⟩ => ⟨S4x8192x1536, .f32⟩
  | .hbm, ⟨10, _⟩ => ⟨S4x8192x512, .f32⟩
  | .hbm, ⟨11, _⟩ => ⟨S4x8192x512, .f32⟩
  | .hbm, ⟨12, _⟩ => ⟨S4x8192x512, .f32⟩
  | .hbm, ⟨13, _⟩ => ⟨S32768x512, .f32⟩
  | .hbm, ⟨14, _⟩ => ⟨S4x8192x512, .f32⟩
  | .hbm, ⟨15, _⟩ => ⟨S4x8192x512, .f32⟩
  | .hbm, ⟨16, _⟩ => ⟨S_, .i32⟩
  | .hbm, ⟨17, _⟩ => ⟨S_, .f32⟩
  | .hbm, ⟨18, _⟩ => ⟨S4x8194x512, .f32⟩
  | .hbm, ⟨19, _⟩ => ⟨S4x8192x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S1x512, .f32⟩
  | .hbm, ⟨27, _⟩ => ⟨S512, .f32⟩
  | .hbm, ⟨28, _⟩ => ⟨S1x1x512, .f32⟩
  | .hbm, ⟨29, _⟩ => ⟨S4x8192x512, .f32⟩
  | .hbm, ⟨30, _⟩ => ⟨S4x8192x512, .f32⟩
  | .hbm, ⟨31, _⟩ => ⟨S4x8192x512, .f32⟩
  | .hbm, ⟨32, _⟩ => ⟨S4x8192x512, .f32⟩
  | .hbm, ⟨33, _⟩ => ⟨S1x512, .f32⟩
  | .hbm, ⟨34, _⟩ => ⟨S512, .f32⟩
  | .hbm, ⟨35, _⟩ => ⟨S1x1x512, .f32⟩
  | .hbm, ⟨36, _⟩ => ⟨S4x8192x512, .f32⟩
  | .hbm, ⟨37, _⟩ => ⟨S4x8192x512, .f32⟩
  | .hbm, ⟨38, _⟩ => ⟨S4x8192x512, .f32⟩
  | .hbm, ⟨39, _⟩ => ⟨S4x8192x512, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x1x1x1024, .f32⟩
  | .hbm, ⟨44, _⟩ => ⟨S4x1x1024, .f32⟩
  | .hbm, ⟨45, _⟩ => ⟨S1x1024, .f32⟩
  | .hbm, ⟨46, _⟩ => ⟨S1024, .f32⟩
  | .hbm, ⟨47, _⟩ => ⟨S4x8192x1024, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x1024, .f32⟩
  | .hbm, ⟨59, _⟩ => ⟨S4x8192x1024, .f32⟩
  | .hbm, ⟨60, _⟩ => ⟨S1x1x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst : Ref sig .tc := ⟨.hbm, 48, rfl⟩
abbrev main_v39 : Ref sig .tc := ⟨.hbm, 49, rfl⟩
abbrev main_v40 : Ref sig .tc := ⟨.hbm, 50, rfl⟩
abbrev main_cst_0 : Ref sig .tc := ⟨.hbm, 51, rfl⟩
abbrev main_v41 : Ref sig .tc := ⟨.hbm, 52, rfl⟩
abbrev main_v42 : Ref sig .tc := ⟨.hbm, 53, rfl⟩
abbrev main_cst_1 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Mod.lean ====
abbrev S8x1024 : Shape := ⟨2, ![8, 1024]⟩
abbrev S4x1024x9216 : Shape := ⟨3, ![4, 1024, 9216]⟩
abbrev S4x9216 : Shape := ⟨2, ![4, 9216]⟩
abbrev S4x1x9216 : Shape := ⟨3, ![4, 1, 9216]⟩
abbrev S4x8x9216 : Shape := ⟨3, ![4, 8, 9216]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x9216, .f32⟩
  | .hbm, ⟨2, _⟩ => ⟨S4x9216, .f32⟩
  | .hbm, ⟨3, _⟩ => ⟨S4x1x9216, .f32⟩
  | .hbm, ⟨4, _⟩ => ⟨S4x8x9216, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S4x1024x9216 : Shape := ⟨3, ![4, 1024, 9216]⟩
abbrev S4x9216 : Shape := ⟨2, ![4, 9216]⟩
abbrev S_ : Shape := ⟨0, ![]⟩
abbrev S4x9216x8 : Shape := ⟨3, ![4, 9216, 8]⟩
abbrev S4x8x9216 : Shape := ⟨3, ![4, 8, 9216]⟩
abbrev S4x1x9216 : Shape := ⟨3, ![4, 1, 9216]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x9216, .f32⟩
  | .hbm, ⟨2, _⟩ => ⟨S4x9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x9216x8, .f32⟩
  | .hbm, ⟨13, _⟩ => ⟨S4x8x9216, .f32⟩
  | .hbm, ⟨14, _⟩ => ⟨S4x1x9216, .f32⟩
  | .hbm, ⟨15, _⟩ => ⟨S4x8x9216, .f32⟩
  | .hbm, ⟨16, _⟩ => ⟨S4x8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== HyPre.lean ====
abbrev S32768x3072 : Shape := ⟨2, ![32768, 3072]⟩
abbrev S3x3072 : Shape := ⟨2, ![3, 3072]⟩
abbrev S32768x1024 : Shape := ⟨2, ![32768, 1024]⟩
abbrev S256x3072 : Shape := ⟨2, ![256, 3072]⟩
abbrev S8x3072 : Shape := ⟨2, ![8, 3072]⟩
abbrev S256x1024 : Shape := ⟨2, ![256, 1024]⟩
abbrev S1x1024 : Shape := ⟨2, ![1, 1024]⟩

abbrev nBuf : Space → Nat
  | .hbm => 4
  | .vmem => 11
  | .smem => 0
  | _ => 0

abbrev bufTy : (tb : Table) → Fin (tcTables nBuf tb) → BufTy
  | .hbm, ⟨0, _⟩ => ⟨S32768x3072, .f32⟩
  | .hbm, ⟨1, _⟩ => ⟨S3x3072, .f32⟩
  | .hbm, ⟨2, _⟩ => ⟨S32768x1024, .f32⟩
  | .hbm, ⟨3, _⟩ => ⟨S32768x1024, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S8x3072, .f32⟩
  | .local _ .vmem, ⟨6, _⟩ => ⟨S3x3072, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HyPreRefIdeal.lean ====
abbrev S32768x3072 : Shape := ⟨2, ![32768, 3072]⟩
abbrev S3x3072 : Shape := ⟨2, ![3, 3072]⟩
abbrev S4x8192x3072 : Shape := ⟨3, ![4, 8192, 3072]⟩
abbrev S_ : Shape := ⟨0, ![]⟩
abbrev S4x8194x3072 : Shape := ⟨3, ![4, 8194, 3072]⟩
abbrev S1x3072 : Shape := ⟨2, ![1, 3072]⟩
abbrev S3072 : Shape := ⟨1, ![3072]⟩
abbrev S1x1x3072 : Shape := ⟨3, ![1, 1, 3072]⟩
abbrev S4x8192x1024 : Shape := ⟨3, ![4, 8192, 1024]⟩
abbrev S32768x1024 : Shape := ⟨2, ![32768, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32768x3072, .f32⟩
  | .hbm, ⟨1, _⟩ => ⟨S3x3072, .f32⟩
  | .hbm, ⟨2, _⟩ => ⟨S4x8192x3072, .f32⟩
  | .hbm, ⟨3, _⟩ => ⟨S_, .i32⟩
  | .hbm, ⟨4, _⟩ => ⟨S_, .f32⟩
  | .hbm, ⟨5, _⟩ => ⟨S4x8194x3072, .f32⟩
  | .hbm, ⟨6, _⟩ => ⟨S4x8192x3072, .f32⟩
  | .hbm, ⟨7, _⟩ => ⟨S1x3072, .f32⟩
  | .hbm, ⟨8, _⟩ => ⟨S3072, .f32⟩
  | .hbm, ⟨9, _⟩ => ⟨S1x1x3072, .f32⟩
  | .hbm, ⟨10, _⟩ => ⟨S4x8192x3072, .f32⟩
  | .hbm, ⟨11, _⟩ => ⟨S4x8192x3072, .f32⟩
  | .hbm, ⟨12, _⟩ => ⟨S4x8192x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S4x8192x3072, .f32⟩
  | .hbm, ⟨17, _⟩ => ⟨S4x8192x3072, .f32⟩
  | .hbm, ⟨18, _⟩ => ⟨S4x8192x3072, .f32⟩
  | .hbm, ⟨19, _⟩ => ⟨S4x8192x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S4x8192x3072, .f32⟩
  | .hbm, ⟨24, _⟩ => ⟨S4x8192x3072, .f32⟩
  | .hbm, ⟨25, _⟩ => ⟨S4x8192x3072, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S32768x1024, .f32⟩
  | .hbm, ⟨30, _⟩ => ⟨S4x8192x1024, .f32⟩
  | .hbm, ⟨31, _⟩ => ⟨S32768x1024, .f32⟩
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== Ctx.lean ====
abbrev S1024x1536 : Shape := ⟨2, ![1024, 1536]⟩
abbrev S4x256x1536 : Shape := ⟨3, ![4, 256, 1536]⟩
abbrev S4x256x512 : Shape := ⟨3, ![4, 256, 512]⟩
abbrev S1x256x128 : Shape := ⟨3, ![1, 256, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S1024x1536, .bf16⟩
  | .hbm, ⟨1, _⟩ => ⟨S4x256x1536, .bf16⟩
  | .hbm, ⟨2, _⟩ => ⟨S4x256x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | _, _ => ⟨S1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxRefIdeal.lean ====
abbrev S1024x1536 : Shape := ⟨2, ![1024, 1536]⟩
abbrev S4x256x1536 : Shape := ⟨3, ![4, 256, 1536]⟩
abbrev S4x256x512 : Shape := ⟨3, ![4, 256, 512]⟩
abbrev S4x256x8x64 : Shape := ⟨4, ![4, 256, 8, 64]⟩
abbrev S_ : Shape := ⟨0, ![]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x64x256 : Shape := ⟨4, ![4, 8, 64, 256]⟩

abbrev nBuf : Space → Nat
  | .hbm => 31
  | .vmem => 0
  | .smem => 0
  | _ => 0

abbrev bufTy : (tb : Table) → Fin (tcTables nBuf tb) → BufTy
  | .hbm, ⟨0, _⟩ => ⟨S1024x1536, .bf16⟩
  | .hbm, ⟨1, _⟩ => ⟨S1024x1536, .f32⟩
  | .hbm, ⟨2, _⟩ => ⟨S4x256x1536, .f32⟩
  | .hbm, ⟨3, _⟩ => ⟨S4x256x512, .f32⟩
  | .hbm, ⟨4, _⟩ => ⟨S4x256x512, .f32⟩
  | .hbm, ⟨5, _⟩ => ⟨S4x256x512, .f32⟩
  | .hbm, ⟨6, _⟩ => ⟨S4x256x8x64, .f32⟩
  | .hbm, ⟨7, _⟩ => ⟨S4x256x8x64, .f32⟩
  | .hbm, ⟨8, _⟩ => ⟨S4x256x8x64, .f32⟩
  | .hbm, ⟨9, _⟩ => ⟨S_, .f32⟩
  | .hbm, ⟨10, _⟩ => ⟨S4x256x8x64, .f32⟩
  | .hbm, ⟨11, _⟩ => ⟨S4x256x8x64, .f32⟩
  | .hbm, ⟨12, _⟩ => ⟨S4x8x256x256, .f32⟩
  | .hbm, ⟨13, _⟩ => ⟨S_, .f32⟩
  | .hbm, ⟨14, _⟩ => ⟨S4x8x256, .f32⟩
  | .hbm, ⟨15, _⟩ => ⟨S_, .f32⟩
  | .hbm, ⟨16, _⟩ => ⟨S4x8x256, .f32⟩
  | .hbm, ⟨17, _⟩ => ⟨S4x8x256, .f32⟩
  | .hbm, ⟨18, _⟩ => ⟨S4x8x256x1, .f32⟩
  | .hbm, ⟨19, _⟩ => ⟨S4x8x256x256, .f32⟩
  | .hbm, ⟨20, _⟩ => ⟨S4x8x256x256, .f32⟩
  | .hbm, ⟨21, _⟩ => ⟨S4x8x256x256, .f32⟩
  | .hbm, ⟨22, _⟩ => ⟨S_, .f32⟩
  | .hbm, ⟨23, _⟩ => ⟨S4x8x256, .f32⟩
  | .hbm, ⟨24, _⟩ => ⟨S4x8x256x1, .f32⟩
  | .hbm, ⟨25, _⟩ => ⟨S4x8x256x256, .f32⟩
  | .hbm, ⟨26, _⟩ => ⟨S4x8x256x256, .f32⟩
  | .hbm, ⟨27, _⟩ => ⟨S4x8x64x256, .f32⟩
  | .hbm, ⟨28, _⟩ => ⟨S4x256x8x64, .f32⟩
  | .hbm, ⟨29, _⟩ => ⟨S4x256x512, .f32⟩
  | .hbm, ⟨30, _⟩ => ⟨S4x256x512, .bf16⟩
  | _, _ => ⟨S1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.Pointwise

/-! # The layer's row formulas

What the dense calls of the layer compute, one row at a time: the root mean square normalisation of a row of 1024
features with its learned gain and its modulation, stated over the rows' entries alone. -/

@[expose] public section

noncomputable section

open Idealize.ShloMosaic

namespace Cert.Layer

/-- The reciprocal root mean square of a row of 1024 features. -/
def rinv (x : Fin 1024 → EReal) : EReal :=
  Ideal.rsqrt (Ideal.div (∑ k, x k * x k) (Ideal.ofBits .f32 0x44800000#32) + Ideal.ofBits .f32 0x358637BD#32)

/-- A row normalised, times its gain `g`, then modulated by the scale `sc` and the shift `sh`. -/
def normed (x g sc sh : Fin 1024 → EReal) (k : Fin 1024) : EReal :=
  x k * rinv x * g k * (Ideal.ofBits .f32 0x3F800000#32 + sc k) + sh k

/-- The in-projection of the normalised rows: entry `(i, q)` is row `i` of the tokens `X`, normalised with gain `gs 2`
    and modulated by rows 3 (shift) and 4 (scale) of its batch element's modulation, against column `q` of `W`. -/
def inProj (X : Vec Ideal ⟨2, ![32768, 1024]⟩ .f32) (M : Vec Ideal ⟨3, ![8, 9, 1024]⟩ .f32) (gs : Vec Ideal ⟨2, ![6, 1024]⟩ .f32)
    (W : Vec Ideal ⟨2, ![1024, 3072]⟩ .f32) (i : Fin 32768) (q : Fin 3072) : EReal :=
  ∑ k, normed (fun k => X (ix2 i k)) (fun k => gs (ix2 2 k)) (fun k => M (ix3 ⟨i / 8192, by omega⟩ 4 k))
    (fun k => M (ix3 ⟨i / 8192, by omega⟩ 3 k)) k * W (ix2 k q)

/-- The residual step of a row: `x` plus the gate times the normalised row `y` with its gain `g`. -/
def outRow (y x gate g : Fin 1024 → EReal) (q : Fin 1024) : EReal :=
  x q + gate q * (y q * rinv y * g q)

/-- The out-projection of the rows `Z`, normalised with gain `gs 3` and added to `X` through row 5 (gate) of the
    modulation of the row's batch element. -/
def outProj (Z : Vec Ideal ⟨2, ![32768, 1024]⟩ .f32) (W : Vec Ideal ⟨2, ![1024, 1024]⟩ .f32) (X : Vec Ideal ⟨2, ![32768, 1024]⟩ .f32)
    (M : Vec Ideal ⟨3, ![8, 9, 1024]⟩ .f32) (gs : Vec Ideal ⟨2, ![6, 1024]⟩ .f32) (i : Fin 32768) (q : Fin 1024) : EReal :=
  outRow (fun q => ∑ k, Z (ix2 i k) * W (ix2 k q)) (fun q => X (ix2 i q)) (fun q => M (ix3 ⟨i / 8192, by omega⟩ 5 q))
    (fun q => gs (ix2 3 q)) q

/-- The product of two entries, the first times its logistic: the feed-forward network's gated activation. -/
def gated (g u : EReal) : EReal := g * Ideal.logistic g * u

/-- The feed-forward half step of the rows `X`: normalise with gain `gs 0`, modulate by rows 0 and 1, gate and up
    projections to 2816 features, their gated product back to 1024 features, that normalised with gain `gs 1` and added to
    `X` through half of row 2 of the modulation. -/
def ffn (X : Vec Ideal ⟨2, ![32768, 1024]⟩ .f32) (M : Vec Ideal ⟨3, ![8, 9, 1024]⟩ .f32) (gs : Vec Ideal ⟨2, ![6, 1024]⟩ .f32)
    (Wg Wu : Vec Ideal ⟨2, ![1024, 2816]⟩ .f32) (Wd : Vec Ideal ⟨2, ![2816, 1024]⟩ .f32) (i : Fin 32768) (q : Fin 1024) : EReal :=
  outRow
    (fun q => ∑ f, gated
      (∑ k, normed (fun k => X (ix2 i k)) (fun k => gs (ix2 0 k)) (fun k => M (ix3 ⟨i / 8192, by omega⟩ 1 k))
        (fun k => M (ix3 ⟨i / 8192, by omega⟩ 0 k)) k * Wg (ix2 k f))
      (∑ k, normed (fun k => X (ix2 i k)) (fun k => gs (ix2 0 k)) (fun k => M (ix3 ⟨i / 8192, by omega⟩ 1 k))
        (fun k => M (ix3 ⟨i / 8192, by omega⟩ 0 k)) k * Wu (ix2 k f)) * Wd (ix2 f q))
    (fun q => X (ix2 i q)) (fun q => Ideal.ofBits .f32 0x3F000000#32 * M (ix3 ⟨i / 8192, by omega⟩ 2 q))
    (fun q => gs (ix2 1 q)) q

/-- The short convolution's input at token `i`, channel `k`: the product of the second and third parts of `B`'s row. -/
def convIn (B : Vec Ideal ⟨2, ![32768, 1536]⟩ .f32) (i : Fin 32768) (k : Fin 512) : EReal :=
  B (ix2 i ⟨512 + k, by omega⟩) * B (ix2 i ⟨1024 + k, by omega⟩)

/-- The short convolution at token `i`, channel `k`: the token before, the token and the token after, each sequence of 8192
    tokens on its own, zeros beyond its ends. -/
def shortConv (B : Vec Ideal ⟨2, ![32768, 1536]⟩ .f32) (C : Vec Ideal ⟨2, ![3, 512]⟩ .f32) (i : Fin 32768) (k : Fin 512) : EReal :=
  (if h : (i : ℕ) % 8192 = 0 then 0 else convIn B ⟨i - 1, by omega⟩ k) * C (ix2 0 k) + convIn B i k * C (ix2 1 k)
    + (if h : (i : ℕ) % 8192 = 8191 then 0 else convIn B ⟨i + 1, by omega⟩ k) * C (ix2 2 k)

/-- The attention rows `A` beside the gated short convolution of `B`, through the weights `W`. -/
def mixed (A : Vec Ideal ⟨2, ![32768, 512]⟩ .bf16) (B : Vec Ideal ⟨2, ![32768, 1536]⟩ .f32) (C : Vec Ideal ⟨2, ![3, 512]⟩ .f32)
    (W : Vec Ideal ⟨2, ![1024, 1024]⟩ .f32) (i : Fin 32768) (q : Fin 1024) : EReal :=
  ∑ k : Fin 512, A (ix2 i k) * W (ix2 ⟨k, by omega⟩ q)
    + ∑ k : Fin 512, (B (ix2 i ⟨k, by omega⟩) * shortConv B C i k) * W (ix2 ⟨512 + k, by omega⟩ q)

/-- The out-projection of the attention rows `A` beside the gated short convolution of `B`, normalised with gain `gs 3` and
    added to `X` through row 5 (gate) of the modulation of the row's batch element. -/
def outProj2 (A : Vec Ideal ⟨2, ![32768, 512]⟩ .bf16) (B : Vec Ideal ⟨2, ![32768, 1536]⟩ .f32) (C : Vec Ideal ⟨2, ![3, 512]⟩ .f32)
    (W : Vec Ideal ⟨2, ![1024, 1024]⟩ .f32) (X : Vec Ideal ⟨2, ![32768, 1024]⟩ .f32)
    (M : Vec Ideal ⟨3, ![8, 9, 1024]⟩ .f32) (gs : Vec Ideal ⟨2, ![6, 1024]⟩ .f32) (i : Fin 32768) (q : Fin 1024) : EReal :=
  outRow (fun q => mixed A B C W i q)
    (fun q => X (ix2 i q)) (fun q => M (ix3 ⟨i / 8192, by omega⟩ 5 q)) (fun q => gs (ix2 3 q)) q

/-- A select on an equality of words is an `if` on it. -/
theorem select_eq {α : Type} {w : ℕ} (a b : BitVec w) (x y : α) :
    Scalar.select (IntOp.cmpi .eq a b) x y = if a = b then x else y := by
  show (if BitVec.ofBool (a == b) = 1 then x else y) = _
  by_cases h : a = b
  · rw [if_pos h, beq_iff_eq.2 h, if_pos (by decide)]
  · rw [if_neg h, beq_eq_false_iff_ne.2 h, if_neg (by decide)]

end Cert.Layer

end
-- ==== Proof.InHyK.lean ====
module

public import proofs.«01_k».proof.Proof.Gen.InHyIdeal.Value
public import proofs.«01_k».proof.Proof.Spec

@[expose] public section

set_option maxRecDepth 16384

noncomputable section

open Idealize.ShloMosaic Idealize.ShloMosaic.TcCoe Idealize.SL.Sem

namespace Cert.InHyIdeal.Value

open Cert.InHyIdeal Cert.InHyIdeal.Gen Cert.Layer

theorem idxs : ∀ t : Fin grid0.N, win0_0.index t = ![t.val, 0] ∧ win0_1.index t = ![t.val / 16, 0, 0] ∧ win0_2.index t = ![0, 0]
    ∧ win0_3.index t = ![0, 0] ∧ win0_4.index t = ![t.val, 0] := by decide +kernel

theorem final (m : (ℓ : Loc nD τ sig) → Buf (Elt Ideal) ℓ) (c : Dev nD) : (dats m 0 c).arrAt 4 (cfgs 0).N
    = fun j => inProj (m ((c.tc : Thread nD τ).loc main_arg0)) (m ((c.tc : Thread nD τ).loc main_arg1))
        (m ((c.tc : Thread nD τ).loc main_arg2)) (m ((c.tc : Thread nD τ).loc main_arg3)) (j 0) (j 1) := by
  refine (dats m 0 c).arrAt_eq_of_covers 4 _ (by decide +kernel) fun t _ y => ?_
  blk_simp
  rw [after0_4]
  canon_tiles x h
  all_goals
    open_payloads
    pointwise [inProj, normed, rinv]
    blk_point [iblk, V, idxs t]

end Cert.InHyIdeal.Value

end
-- ==== Proof.InHyR.lean ====
module

public import proofs.«01_k».proof.Proof.Gen.InHyRefIdeal.Read
public import proofs.«01_k».proof.Proof.Spec

@[expose] public section

set_option maxRecDepth 16384

noncomputable section

open Idealize.ShloMosaic Idealize.ShloMosaic.TcCoe Idealize.SL.Sem

namespace Cert.InHyRefIdeal.Value

open Cert.InHyRefIdeal Cert.InHyRefIdeal.Read Cert.Layer

theorem res_at (x0 : Vec Ideal S32768x1024 .f32) (x1 : Vec Ideal S8x9x1024 .f32) (x2 : Vec Ideal S6x1024 .f32) (x3 : Vec Ideal S1024x3072 .f32)
    (i : Fin 32768) (q : Fin 3072) :
    val_main_v29 x0 x1 x2 x3 (ix2 i q) = inProj x0 x1 x2 x3 i q := by
  have hi : ∀ h, (⟨(i : ℕ) / 8192 * 8192 + i % 8192, h⟩ : Fin 32768) = i := fun _ => Fin.ext (by simp only; omega)
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, val_main_v28, val_main_v29, inProj, normed, rinv, hi]

end Cert.InHyRefIdeal.Value

end
-- ==== Proof.InAbK.lean ====
module

public import proofs.«01_k».proof.Proof.Gen.InAbIdeal.Value
public import proofs.«01_k».proof.Proof.Spec

@[expose] public section

set_option maxRecDepth 16384

noncomputable section

open Idealize.ShloMosaic Idealize.ShloMosaic.TcCoe Idealize.SL.Sem

namespace Cert.InAbIdeal.Value

open Cert.InAbIdeal Cert.InAbIdeal.Gen Cert.Layer

theorem idxs : ∀ t : Fin grid0.N, win0_0.index t = ![t.val, 0] ∧ win0_1.index t = ![t.val / 16, 0, 0] ∧ win0_2.index t = ![0, 0]
    ∧ win0_3.index t = ![0, 0] ∧ win0_4.index t = ![t.val, 0] ∧ win0_5.index t = ![t.val, 0] := by decide +kernel

theorem final4 (m : (ℓ : Loc nD τ sig) → Buf (Elt Ideal) ℓ) (c : Dev nD) : (dats m 0 c).arrAt 4 (cfgs 0).N
    = fun j => inProj (m ((c.tc : Thread nD τ).loc main_arg0)) (m ((c.tc : Thread nD τ).loc main_arg1)) (m ((c.tc : Thread nD τ).loc main_arg2)) (m ((c.tc : Thread nD τ).loc main_arg3)) (j 0) ⟨j 1, Nat.lt_trans (j 1).isLt (show 1536 < 3072 by decide)⟩ := by
  refine (dats m 0 c).arrAt_eq_of_covers 4 _ (by decide +kernel) fun t _ y => ?_
  blk_simp
  rw [after0_4]
  canon_tiles x h
  all_goals
    open_payloads
    pointwise [inProj, normed, rinv]
    blk_point [iblk, V, idxs t]

theorem final5 (m : (ℓ : Loc nD τ sig) → Buf (Elt Ideal) ℓ) (c : Dev nD) : (dats m 0 c).arrAt 5 (cfgs 0).N
    = fun j => inProj (m ((c.tc : Thread nD τ).loc main_arg0)) (m ((c.tc : Thread nD τ).loc main_arg1)) (m ((c.tc : Thread nD τ).loc main_arg2)) (m ((c.tc : Thread nD τ).loc main_arg3)) (j 0) ⟨1536 + j 1, Nat.add_lt_add_left (j 1).isLt 1536⟩ := by
  refine (dats m 0 c).arrAt_eq_of_covers 5 _ (by decide +kernel) fun t _ y => ?_
  blk_simp
  rw [after0_5]
  canon_tiles x h
  all_goals
    open_payloads
    pointwise [inProj, normed, rinv]
    blk_point [iblk, V, idxs t]

end Cert.InAbIdeal.Value

end
-- ==== Proof.InAbR.lean ====
module

public import proofs.«01_k».proof.Proof.Gen.InAbRefIdeal.Read
public import proofs.«01_k».proof.Proof.Spec

@[expose] public section

set_option maxRecDepth 16384

noncomputable section

open Idealize.ShloMosaic Idealize.ShloMosaic.TcCoe Idealize.SL.Sem

namespace Cert.InAbRefIdeal.Value

open Cert.InAbRefIdeal Cert.InAbRefIdeal.Read Cert.Layer

theorem res0_at (x0 : Vec Ideal S32768x1024 .f32) (x1 : Vec Ideal S8x9x1024 .f32) (x2 : Vec Ideal S6x1024 .f32) (x3 : Vec Ideal S1024x3072 .f32)
    (i : Fin 32768) (q : Fin 1536) :
    val_main_v31 x0 x1 x2 x3 (ix2 i q) = inProj x0 x1 x2 x3 i ⟨q, by omega⟩ := by
  have hi : ∀ h, (⟨(i : ℕ) / 8192 * 8192 + i % 8192, h⟩ : Fin 32768) = i := fun _ => Fin.ext (by simp only; omega)
  pointwise [val_main_v0, val_main_v1, val_main_v2, val_main_v3, val_main_v4, val_main_v5, val_main_v6, val_main_v7, val_main_v8, val_main_v9, val_main_cst, val_main_v10, val_main_v11, val_main_cst_0, val_main_v12, val_main_v13, val_main_cst_1, val_main_v14, val_main_v15, val_main_v16, val_main_v17, val_main_v18, val_main_v19, val_main_v20, val_main_v21, val_main_cst_2, val_main_v22, val_main_v23, val_main_v24, val_main_v25, val_main_v26, val_main_v27, val_main_v28, val_main_v29, val_main_v30, val_main_v31, val_main_v32, inProj, normed, rinv, hi]

theorem res1_at (x0 : Vec Ideal S32768x1024 .f32) (x1 : Vec Ideal S8x9x1024 .f32) (x2 : Vec Ideal S6x1024 .f32) (x3 : Vec Ideal S1024x3072 .f32)
    (i : Fin 32768) (q : Fin 1536) :
    val_main_v32 x0 x1 x2 x3 (ix2 i q) = inProj x0 x1 x2 x3 i ⟨1536 + q, by omega⟩ := by
  have hi : ∀ h, (⟨(i : ℕ) / 8192 * 8192 + i % 8192, h⟩ : Fin 32768) = i := fun _ => Fin.ext (by simp only; omega)
  pointwise [val_main_v0, val_main_v1, val_main_v2, val_main_v3, val_main_v4, val_main_v5, val_main_v6, val_main_v7, val_main_v8, val_main_v9, val_main_cst, val_main_v10, val_main_v11, val_main_cst_0, val_main_v12, val_main_v13, val_main_cst_1, val_main_v14, val_main_v15, val_main_v16, val_main_v17, val_main_v18, val_main_v19, val_main_v20, val_main_v21, val_main_cst_2, val_main_v22, val_main_v23, val_main_v24, val_main_v25, val_main_v26, val_main_v27, val_main_v28, val_main_v29, val_main_v30, val_main_v31, val_main_v32, inProj, normed, rinv, hi]

end Cert.InAbRefIdeal.Value

end
-- ==== Proof.FfnK.lean ====
module

public import proofs.«01_k».proof.Proof.Gen.FfnIdeal.Value
public import proofs.«01_k».proof.Proof.Spec
public import Idealize.ShloMosaic.Lib.Pipeline.ReadBack

@[expose] public section

set_option maxRecDepth 16384

noncomputable section

open Idealize.ShloMosaic Idealize.ShloMosaic.TcCoe Idealize.SL.Sem

namespace Cert.FfnIdeal.Value

open Cert.FfnIdeal Cert.FfnIdeal.Gen Cert.Layer

/-- A sum over 2816 features, 256 at a time. -/
theorem sum_chunks (F : Fin 2816 → EReal) : ∑ f, F f
    = ∑ f : Fin 256, F ⟨0 + f, by omega⟩ + ∑ f : Fin 256, F ⟨256 + f, by omega⟩ + ∑ f : Fin 256, F ⟨512 + f, by omega⟩ + ∑ f : Fin 256, F ⟨768 + f, by omega⟩ + ∑ f : Fin 256, F ⟨1024 + f, by omega⟩ + ∑ f : Fin 256, F ⟨1280 + f, by omega⟩ + ∑ f : Fin 256, F ⟨1536 + f, by omega⟩ + ∑ f : Fin 256, F ⟨1792 + f, by omega⟩ + ∑ f : Fin 256, F ⟨2048 + f, by omega⟩ + ∑ f : Fin 256, F ⟨2304 + f, by omega⟩ + ∑ f : Fin 256, F ⟨2560 + f, by omega⟩ := by
  have h (G : Fin 11 → EReal) : ∑ j, G j = G 0 + G 1 + G 2 + G 3 + G 4 + G 5 + G 6 + G 7 + G 8 + G 9 + G 10 := by
    simp only [Fin.sum_univ_castSucc, Fin.sum_univ_zero, zero_add]
    rfl
  rw [Fin.sum_univ_tiles 11 256 rfl F, h]
  rfl

theorem pay2_at (v0 : Vec Ideal S512x1024 .f32) (v1 v3 : Vec Ideal S1x1x1024 .f32) (v17 : Vec Ideal S1x1024 .f32)
    (r : Fin 512) (k : Fin 1024) :
    k0_pay2 v0 v1 v3 v17 (ix2 r k) = normed (fun k => v0 (ix2 r k)) (fun k => v17 (ix2 0 k)) (fun k => v3 (ix3 0 0 k))
      (fun k => v1 (ix3 0 0 k)) k := by
  pointwise [k0_pay2, normed, rinv]

theorem idxs : ∀ t : Fin grid0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_6.index t = ![t.val, 0] := by decide +kernel

set_option maxHeartbeats 1000000 in
theorem final (m : (ℓ : Loc nD τ sig) → Buf (Elt Ideal) ℓ) (c : Dev nD) : (dats m 0 c).arrAt 6 (cfgs 0).N
    = fun j => ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (j 0) (j 1) := by
  refine (dats m 0 c).arrAt_eq_of_covers 6 _ (by decide +kernel) fun t _ y => ?_
  blk_simp
  rw [after0_6]
  unfold outsAt0
  frame_open
  simp (disch := decide) only [↓ View.readCov_skip, ↓ View.readCov_cons_toLoadRect, ↓ View.readCov_fill]
  frame_out
  simp only [ffn, sum_chunks]
  pointwise [k0_pay1, k0_pay3, k0_pay4, k0_pay5, k0_pay6, k0_pay7, k0_pay8, k0_pay9, k0_pay10, k0_pay11, k0_pay12, k0_pay13, k0_pay14,
    k0_pay15, k0_pay16, k0_pay17, k0_pay18, k0_pay19, pay2_at, gated, outRow, rinv]
  blk_point [iblk, V, idxs t]

end Cert.FfnIdeal.Value

end
-- ==== Proof.FfnR.lean ====
module

public import proofs.«01_k».proof.Proof.Gen.FfnRefIdeal.Read
public import proofs.«01_k».proof.Proof.Spec

@[expose] public section

set_option maxRecDepth 16384

noncomputable section

open Idealize.ShloMosaic Idealize.ShloMosaic.TcCoe Idealize.SL.Sem

namespace Cert.FfnRefIdeal.Value

open Cert.FfnRefIdeal Cert.FfnRefIdeal.Read Cert.Layer

theorem res_at (x0 : Vec Ideal S32768x1024 .f32) (x1 : Vec Ideal S8x9x1024 .f32) (x2 : Vec Ideal S6x1024 .f32)
    (x3 x4 : Vec Ideal S1024x2816 .f32) (x5 : Vec Ideal S2816x1024 .f32) (i : Fin 32768) (q : Fin 1024) :
    val_main_v55 x0 x1 x2 x3 x4 x5 (ix2 i q) = ffn x0 x1 x2 x3 x4 x5 i q := by
  have hi : ∀ h, (⟨(i : ℕ) / 8192 * 8192 + i % 8192, h⟩ : Fin 32768) = i := fun _ => Fin.ext (by simp only; omega)
  pointwise [val_main_v0, val_main_v1, val_main_v2, val_main_v3, val_main_v4, val_main_v5, val_main_v6, val_main_v7, val_main_v8, val_main_v9, val_main_v10, val_main_v11, val_main_v12, val_main_v13, val_main_cst, val_main_v14, val_main_v15, val_main_cst_0, val_main_v16, val_main_v17, val_main_cst_1, val_main_v18, val_main_v19, val_main_v20, val_main_v21, val_main_v22, val_main_v23, val_main_v24, val_main_v25, val_main_cst_2, val_main_v26, val_main_v27, val_main_v28, val_main_v29, val_main_v30, val_main_v31, val_main_v32, val_main_call0_v0, val_main_call0_v1, val_main_call0_cst, val_main_call0_v2, val_main_call0_v3, val_main_call0_cst_0, val_main_call0_v4, val_main_call0_v5, val_main_v33, val_main_v34, val_main_v35, val_main_v36, val_main_cst_3, val_main_v37, val_main_v38, val_main_v39, val_main_cst_4, val_main_v40, val_main_v41, val_main_cst_5, val_main_v42, val_main_v43, val_main_cst_6, val_main_v44, val_main_v45, val_main_v46, val_main_v47, val_main_v48, val_main_v49, val_main_v50, val_main_v51, val_main_v52, val_main_v53, val_main_v54, val_main_v55, ffn, gated, normed, outRow, rinv, hi]
  rfl

end Cert.FfnRefIdeal.Value

end
-- ==== Proof.OutHyK.lean ====
module

public import proofs.«01_k».proof.Proof.Gen.OutHyIdeal.Value
public import proofs.«01_k».proof.Proof.Spec

@[expose] public section

set_option maxRecDepth 16384

noncomputable section

open Idealize.ShloMosaic Idealize.ShloMosaic.TcCoe Idealize.SL.Sem

namespace Cert.OutHyIdeal.Value

open Cert.OutHyIdeal Cert.OutHyIdeal.Gen Cert.Layer

theorem idxs : ∀ t : Fin grid0.N, win0_0.index t = ![t.val, 0] ∧ win0_1.index t = ![0, 0] ∧ win0_2.index t = ![t.val, 0]
    ∧ win0_3.index t = ![t.val / 16, 0, 0] ∧ win0_4.index t = ![0, 0] ∧ win0_5.index t = ![t.val, 0] := by decide +kernel

theorem final (m : (ℓ : Loc nD τ sig) → Buf (Elt Ideal) ℓ) (c : Dev nD) : (dats m 0 c).arrAt 5 (cfgs 0).N
    = fun j => outProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (j 0) (j 1) := by
  refine (dats m 0 c).arrAt_eq_of_covers 5 _ (by decide +kernel) fun t _ y => ?_
  blk_simp
  rw [after0_5]
  frame_out
  pointwise [k0_pay1, outProj, outRow, rinv]
  blk_point [iblk, V, idxs t]

end Cert.OutHyIdeal.Value

end
-- ==== Proof.OutHyR.lean ====
module

public import proofs.«01_k».proof.Proof.Gen.OutHyRefIdeal.Read
public import proofs.«01_k».proof.Proof.Spec

@[expose] public section

set_option maxRecDepth 16384

noncomputable section

open Idealize.ShloMosaic Idealize.ShloMosaic.TcCoe Idealize.SL.Sem

namespace Cert.OutHyRefIdeal.Value

open Cert.OutHyRefIdeal Cert.OutHyRefIdeal.Read Cert.Layer

theorem res_at (x0 : Vec Ideal S32768x1024 .f32) (x1 : Vec Ideal S1024x1024 .f32) (x2 : Vec Ideal S32768x1024 .f32)
    (x3 : Vec Ideal S8x9x1024 .f32) (x4 : Vec Ideal S6x1024 .f32) (i : Fin 32768) (q : Fin 1024) :
    val_main_v25 x0 x1 x2 x3 x4 (ix2 i q) = outProj x0 x1 x2 x3 x4 i q := by
  have hi : ∀ h, (⟨(i : ℕ) / 8192 * 8192 + i % 8192, h⟩ : Fin 32768) = i := fun _ => Fin.ext (by simp only; omega)
  pointwise [val_main_v0, val_main_v1, val_main_v2, val_main_v3, val_main_v4, val_main_v5, val_main_v6, val_main_v7, val_main_v8, val_main_v9, val_main_cst, val_main_v10, val_main_v11, val_main_cst_0, val_main_v12, val_main_v13, val_main_cst_1, val_main_v14, val_main_v15, val_main_v16, val_main_v17, val_main_v18, val_main_v19, val_main_v20, val_main_v21, val_main_v22, val_main_v23, val_main_v24, val_main_v25, outProj, outRow, rinv, hi]

end Cert.OutHyRefIdeal.Value

end
-- ==== Proof.OutAbK.lean ====
module

public import proofs.«01_k».proof.Proof.Gen.OutAbIdeal.Value
public import proofs.«01_k».proof.Proof.Spec
public import Idealize.ShloMosaic.Lib.Pipeline.ReadBack

@[expose] public section

set_option maxRecDepth 16384

noncomputable section

open Idealize.ShloMosaic Idealize.ShloMosaic.TcCoe Idealize.SL.Sem

namespace Cert.OutAbIdeal.Value

open Cert.OutAbIdeal Cert.OutAbIdeal.Gen Cert.Layer

/-- The word `t * 512 + r` reduced modulo 8192 is the token's place in its sequence. -/
theorem pos_word (t r n : ℕ) (ht : t < 64) (hr : r < 512) (hn : n < 8192) :
    IntOp.andi (IntOp.addi (Scalar.muli (BitVec.ofNat 32 t) 512#32) (BitVec.ofNat 32 r)) 8191#32 = BitVec.ofNat 32 n
      ↔ (t * 512 + r) % 8192 = n := by
  show (BitVec.ofNat 32 t * 512#32 + BitVec.ofNat 32 r) &&& 8191#32 = BitVec.ofNat 32 n ↔ _
  rw [← BitVec.toNat_inj]
  simp only [BitVec.toNat_and, BitVec.toNat_add, BitVec.toNat_mul, BitVec.toNat_ofNat]
  rw [show (8191 % 2 ^ 32 : ℕ) = 2 ^ 13 - 1 by norm_num, Nat.and_two_pow_sub_one_eq_mod]
  omega

theorem word_eq (r n : ℕ) (hr : r < 512) (hn : n < 512) : BitVec.ofNat 32 r = BitVec.ofNat 32 n ↔ r = n := by
  rw [← BitVec.toNat_inj]
  simp only [BitVec.toNat_ofNat]
  omega

theorem pay4_at (i : grid0.Coords) (v0 v1 : Vec Ideal S512x512 .f32) (v3 v4 : Vec Ideal S1x512 .f32) (r k : Fin 512) :
    k0_pay4 i v0 v1 v3 v4 (ix2 r k) = if ((i 0 : ℕ) * 512 + r) % 8192 = 0 then 0 else
      if h : (r : ℕ) = 0 then v3 (ix2 0 k) * v4 (ix2 0 k) else v0 (ix2 ⟨r - 1, by omega⟩ k) * v1 (ix2 ⟨r - 1, by omega⟩ k) := by
  have hi : (i 0 : ℕ) < 64 := (i 0).isLt
  pointwise [k0_pay4, k0_pay3, k0_pay2]
  simp only [select_eq, pos_word _ _ 0 hi r.isLt (by decide), word_eq _ 0 r.isLt (by decide)]
  refine if_congr Iff.rfl rfl ?_
  by_cases h : (r : ℕ) = 0
  · rw [if_pos h, dif_pos h]
  · have e : ((r : ℕ) + 512 - 1) % 512 = r - 1 := by omega
    rw [if_neg h, dif_neg h]
    simp only [e]

/-- The next row under the last row of a block, or the row below. -/
def below (i : grid0.Coords) (r : Fin 512) (x y : EReal) : EReal :=
  if ((i 0 : ℕ) * 512 + r) % 8192 = 8191 then 0 else if (r : ℕ) = 511 then x else y

theorem pay9_at (i : grid0.Coords) (v2 : FVec Ideal S512x512 .f32) (v9 v10 v11 : Vec Ideal S1x512 .f32) (v27 v30 v32 : FVec Ideal S512x512 .f32)
    (v46 : Vec Ideal S512x512 .f32) (v49 : Vec Ideal S512x512 .bf16) (v50 v53 : Vec Ideal S512x1024 .bf16) (r : Fin 512) (q : Fin 1024) :
    k0_pay9 v2 v9 v10 v11 (k0_pay3 i) v27 k0_pay5 v30 v32 v46 v49 v50 v53 (ix2 r q)
      = (fun Y : Fin 1024 → EReal => Y q * rinv Y) fun q => ∑ k, v49 (ix2 r k) * v50 (ix2 k q)
        + ∑ k, (v46 (ix2 r k) * (v27 (ix2 r k) * v9 (ix2 0 k) + v2 (ix2 r k) * v10 (ix2 0 k)
          + below i r (v32 (ix2 r k)) (v30 (ix2 r k)) * v11 (ix2 0 k))) * v53 (ix2 k q) := by
  have hi : (i 0 : ℕ) < 64 := (i 0).isLt
  pointwise [k0_pay9, k0_pay3, k0_pay5, rinv]
  simp only [select_eq, pos_word _ _ 8191 hi r.isLt (by decide), word_eq _ 511 r.isLt (by decide), below, ite_mul, zero_mul]

theorem idxs : ∀ t : Fin grid0.N, win0_0.index t = ![t.val, 0] ∧ win0_1.index t = ![t.val, 0] ∧ win0_2.index t = ![t.val * 64 - 1, 0]
    ∧ win0_3.index t = ![min (t.val * 64 + 64) 4095, 0] ∧ win0_4.index t = ![0, 0] ∧ win0_5.index t = ![0, 0] ∧ win0_6.index t = ![t.val, 0]
    ∧ win0_7.index t = ![t.val / 16, 0, 0] ∧ win0_8.index t = ![0, 0] ∧ win0_9.index t = ![t.val, 0] := by decide +kernel

theorem coord : ∀ t : Fin grid0.N, (grid0.coords t 0 : ℕ) = t.val := by decide +kernel

/-- Row `r` of block `t` as a token. -/
def tok (t : Fin grid0.N) (r : Fin 512) : Fin 32768 := ⟨t * 512 + r, by have := t.isLt; have := r.isLt; simp only [N_0] at *; omega⟩

theorem before_blk (m : (ℓ : Loc nD τ sig) → Buf (Elt Ideal) ℓ) (c : Dev nD) (t : Fin grid0.N) (r k : Fin 512) :
    k0_pay4 (grid0.coords t) (View.ld (iblk m c 1 t) r0_0) (View.ld (iblk m c 1 t) r0_1)
        (View.ld (iblk m c 2 t) r0_2) (View.ld (iblk m c 2 t) r0_3) (ix2 r k)
      = if h : (tok t r : ℕ) % 8192 = 0 then 0 else convIn (m ((c.tc : Thread nD τ).loc main_arg1)) ⟨tok t r - 1, by omega⟩ k := by
  have ht : (t : ℕ) < 64 := t.isLt
  have hr := r.isLt
  pointwise [pay4_at, convIn, coord t, tok]
  by_cases h0 : ((t : ℕ) * 512 + r) % 8192 = 0
  · rw [if_pos h0, dif_pos h0]
  · rw [if_neg h0, dif_neg h0]
    by_cases h2 : (r : ℕ) = 0
    · rw [dif_pos h2]
      blk_point [iblk, V, idxs t]
    · rw [dif_neg h2]
      blk_point [iblk, V, idxs t]

theorem after_blk (m : (ℓ : Loc nD τ sig) → Buf (Elt Ideal) ℓ) (c : Dev nD) (t : Fin grid0.N) (r k : Fin 512) :
    below (grid0.coords t) r (k0_pay7 (View.ld (iblk m c 3 t) r0_4) (View.ld (iblk m c 3 t) r0_5) (ix2 r k))
        (k0_pay6 (View.ld (iblk m c 1 t) r0_0) (View.ld (iblk m c 1 t) r0_1) (ix2 r k))
      = if h : (tok t r : ℕ) % 8192 = 8191 then 0 else convIn (m ((c.tc : Thread nD τ).loc main_arg1)) ⟨tok t r + 1, by omega⟩ k := by
  have ht : (t : ℕ) < 64 := t.isLt
  have hr := r.isLt
  pointwise [k0_pay2, k0_pay6, k0_pay7, below, convIn, coord t, tok]
  by_cases h0 : ((t : ℕ) * 512 + r) % 8192 = 8191
  · rw [if_pos h0, dif_pos h0]
  · rw [if_neg h0, dif_neg h0]
    by_cases h2 : (r : ℕ) = 511
    · rw [if_pos h2]
      blk_point [iblk, V, idxs t]
    · rw [if_neg h2]
      have e : ((r : ℕ) + 512 - 511) % 512 = r + 1 := by omega
      simp only [e]
      blk_point [iblk, V, idxs t]

theorem conv_blk (m : (ℓ : Loc nD τ sig) → Buf (Elt Ideal) ℓ) (c : Dev nD) (t : Fin grid0.N) (r k : Fin 512) :
    k0_pay4 (grid0.coords t) (View.ld (iblk m c 1 t) r0_0) (View.ld (iblk m c 1 t) r0_1)
              (View.ld (iblk m c 2 t) r0_2) (View.ld (iblk m c 2 t) r0_3) (ix2 r k) * View.ld (iblk m c 4 t) r0_6 (ix2 0 k)
      + k0_pay2 (View.ld (iblk m c 1 t) r0_0) (View.ld (iblk m c 1 t) r0_1) (ix2 r k) * View.ld (iblk m c 4 t) r0_7 (ix2 0 k)
      + below (grid0.coords t) r (k0_pay7 (View.ld (iblk m c 3 t) r0_4) (View.ld (iblk m c 3 t) r0_5) (ix2 r k))
          (k0_pay6 (View.ld (iblk m c 1 t) r0_0) (View.ld (iblk m c 1 t) r0_1) (ix2 r k)) * View.ld (iblk m c 4 t) r0_8 (ix2 0 k)
      = shortConv (m ((c.tc : Thread nD τ).loc main_arg1)) (m ((c.tc : Thread nD τ).loc main_arg2)) (tok t r) k := by
  unfold shortConv
  refine congrArg₂ (· + ·) (congrArg₂ (· + ·) (congrArg₂ (· * ·) (before_blk m c t r k) ?_) ?_)
    (congrArg₂ (· * ·) (after_blk m c t r k) ?_)
  · pointwise [tok]
    blk_point [iblk, V, idxs t]
  · pointwise [k0_pay2, convIn, tok]
    blk_point [iblk, V, idxs t]
  · pointwise [tok]
    blk_point [iblk, V, idxs t]

theorem pay9_of (i : grid0.Coords) (v2 : FVec Ideal S512x512 .f32) (v9 v10 v11 : Vec Ideal S1x512 .f32) (v27 v30 v32 : FVec Ideal S512x512 .f32)
    (v46 : Vec Ideal S512x512 .f32) (v49 : Vec Ideal S512x512 .bf16) (v50 v53 : Vec Ideal S512x1024 .bf16) (r : Fin 512) (q : Fin 1024)
    (Z : Fin 1024 → EReal) (hZ : ∀ q, ∑ k, v49 (ix2 r k) * v50 (ix2 k q)
        + ∑ k, (v46 (ix2 r k) * (v27 (ix2 r k) * v9 (ix2 0 k) + v2 (ix2 r k) * v10 (ix2 0 k)
          + below i r (v32 (ix2 r k)) (v30 (ix2 r k)) * v11 (ix2 0 k))) * v53 (ix2 k q) = Z q) :
    k0_pay9 v2 v9 v10 v11 (k0_pay3 i) v27 k0_pay5 v30 v32 v46 v49 v50 v53 (ix2 r q) = Z q * rinv Z := by
  rw [pay9_at, funext hZ]

theorem pay9_blk (m : (ℓ : Loc nD τ sig) → Buf (Elt Ideal) ℓ) (c : Dev nD) (t : Fin grid0.N) :
    k0_pay9 (k0_pay2 (View.ld (iblk m c 1 t) r0_0) (View.ld (iblk m c 1 t) r0_1)) (View.ld (iblk m c 4 t) r0_6)
            (View.ld (iblk m c 4 t) r0_7) (View.ld (iblk m c 4 t) r0_8) (k0_pay3 (grid0.coords t))
            (k0_pay4 (grid0.coords t) (View.ld (iblk m c 1 t) r0_0) (View.ld (iblk m c 1 t) r0_1)
              (View.ld (iblk m c 2 t) r0_2) (View.ld (iblk m c 2 t) r0_3))
            k0_pay5 (k0_pay6 (View.ld (iblk m c 1 t) r0_0) (View.ld (iblk m c 1 t) r0_1))
            (k0_pay7 (View.ld (iblk m c 3 t) r0_4) (View.ld (iblk m c 3 t) r0_5))
            (View.ld (iblk m c 1 t) r0_9) (iblk m c 0 t) (View.ld (iblk m c 5 t) r0_11) (View.ld (iblk m c 5 t) r0_12)
      = fun y => mixed (m ((c.tc : Thread nD τ).loc main_arg0)) (m ((c.tc : Thread nD τ).loc main_arg1)) (m ((c.tc : Thread nD τ).loc main_arg2)) (m ((c.tc : Thread nD τ).loc main_arg3)) (tok t (y 0)) (y 1) * rinv (mixed (m ((c.tc : Thread nD τ).loc main_arg0)) (m ((c.tc : Thread nD τ).loc main_arg1)) (m ((c.tc : Thread nD τ).loc main_arg2)) (m ((c.tc : Thread nD τ).loc main_arg3)) (tok t (y 0))) := by
  funext y
  obtain ⟨r, q, rfl⟩ : ∃ r q, y = ix2 r q := ⟨y 0, y 1, (ix2_eta y).symm⟩
  refine pay9_of _ _ _ _ _ _ _ _ _ _ _ _ r q (mixed (m ((c.tc : Thread nD τ).loc main_arg0)) (m ((c.tc : Thread nD τ).loc main_arg1)) (m ((c.tc : Thread nD τ).loc main_arg2)) (m ((c.tc : Thread nD τ).loc main_arg3)) (tok t r)) fun q => ?_
  unfold mixed
  refine congrArg₂ (· + ·) (Finset.sum_congr rfl fun k _ => ?_) (Finset.sum_congr rfl fun k _ => ?_)
  · pointwise [tok]
    blk_point [iblk, V, idxs t]
  · refine congrArg₂ (· * ·) (congrArg₂ (· * ·) ?_ (conv_blk m c t r k)) ?_
    · pointwise [tok]
      blk_point [iblk, V, idxs t]
    · pointwise [tok]
      blk_point [iblk, V, idxs t]

theorem final (m : (ℓ : Loc nD τ sig) → Buf (Elt Ideal) ℓ) (c : Dev nD) : (dats m 0 c).arrAt 9 (cfgs 0).N
    = fun j => outProj2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (j 0) (j 1) := by
  refine (dats m 0 c).arrAt_eq_of_covers 9 _ (by decide +kernel) fun t _ y => ?_
  blk_simp
  rw [after0_9]
  frame_out
  refine (congrArg (fun z => k0_pay1 (iblk m c 6 t) (k0_pay8 (View.ld (iblk m c 7 t) r0_14)) z (View.ld (iblk m c 8 t) r0_15) y)
    (pay9_blk m c t)).trans ?_
  pointwise [k0_pay1, k0_pay8, outProj2, outRow]
  have e : ((View.whole main_v1).slice (win0_9.rect t)).emb y = ix2 (tok t (y 0)) (y 1) := by
    blk_ext [idxs t, tok]
  rw [e]
  refine congrArg₂ (· + ·) ?_ (congrArg₂ (· * ·) ?_ (congrArg₂ (· * ·) rfl ?_))
  all_goals blk_ext [iblk, V, idxs t, tok]

end Cert.OutAbIdeal.Value

end
-- ==== Proof.OutAbR.lean ====
module

public import proofs.«01_k».proof.Proof.Gen.OutAbRefIdeal.Read
public import proofs.«01_k».proof.Proof.Spec
public import Idealize.ShloMosaic.Lib.Pipeline.ReadBack

@[expose] public section

set_option maxRecDepth 16384

noncomputable section

open Idealize.ShloMosaic Idealize.ShloMosaic.TcCoe Idealize.SL.Sem

namespace Cert.OutAbRefIdeal.Value

open Cert.OutAbRefIdeal Cert.OutAbRefIdeal.Read Cert.Layer

set_option maxHeartbeats 1000000 in
theorem conv_at (x1 : Vec Ideal S32768x1536 .f32) (x2 : Vec Ideal S3x512 .f32) (i : Fin 32768) (k : Fin 512) :
    val_main_v29 x1 x2 (ix3 ⟨i / 8192, by omega⟩ ⟨i % 8192, by omega⟩ k) = shortConv x1 x2 i k := by
  have h0 : FloatOps.sitofp (F := Ideal) FTy.f32 0#32 = (0 : EReal) := by
    show (((0#32 : BitVec 32).toInt : ℝ) : EReal) = 0
    simp
  have hk := k.isLt
  have hi := i.isLt
  pointwise [val_main_v0, val_main_v1, val_main_v2, val_main_v3, val_main_v4, val_main_v5, val_main_v6, val_main_v7, val_main_v8, val_main_c, val_main_call0_v0, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, shortConv, convIn, h0]
  rw [dif_pos (show (i : ℕ) / 8192 < 4 ∧ (i : ℕ) % 8192 < 8192 by omega)]
  refine congrArg₂ (· + ·) (congrArg (· + _) (congrArg (· * _) ?_)) (congrArg (· * _) ?_)
  · by_cases h : (i : ℕ) % 8192 = 0
    · rw [dif_neg (by omega), dif_pos h]
    · have e : ∀ h, (⟨(i : ℕ) / 8192 * 8192 + (i % 8192 - 1), h⟩ : Fin 32768) = ⟨i - 1, by omega⟩ :=
        fun _ => Fin.ext (by simp only; omega)
      rw [dif_pos (by omega), dif_neg h]
      simp only [e]
  · by_cases h : (i : ℕ) % 8192 = 8191
    · rw [dif_neg (by omega), dif_pos h]
    · have e : ∀ h, (⟨(i : ℕ) / 8192 * 8192 + (2 + i % 8192 - 1), h⟩ : Fin 32768) = ⟨i + 1, by omega⟩ :=
        fun _ => Fin.ext (by simp only; omega)
      rw [dif_pos (by omega), dif_neg h]
      simp only [e]

theorem y_at (x0 : Vec Ideal S32768x512 .bf16) (x1 : Vec Ideal S32768x1536 .f32) (x2 : Vec Ideal S3x512 .f32)
    (x3 : Vec Ideal S1024x1024 .f32) (i : Fin 32768) (q : Fin 1024) :
    val_main_v32 x0 x1 x2 x3 (ix3 ⟨i / 8192, by omega⟩ ⟨i % 8192, by omega⟩ q)
      = ∑ k : Fin 512, x0 (ix2 i k) * x3 (ix2 ⟨k, by omega⟩ q)
        + ∑ k : Fin 512, (x1 (ix2 i ⟨k, by omega⟩) * shortConv x1 x2 i k) * x3 (ix2 ⟨512 + k, by omega⟩ q) := by
  have hi : ∀ h, (⟨(i : ℕ) / 8192 * 8192 + i % 8192, h⟩ : Fin 32768) = i := fun _ => Fin.ext (by simp only; omega)
  pointwise [val_main_v0, val_main_v1, val_main_v2, val_main_v3, val_main_v4, val_main_v5, val_main_v6, val_main_v7, val_main_v8, val_main_c, val_main_call0_v0, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v30, val_main_v31, val_main_v32, conv_at, hi]

theorem res_at (x0 : Vec Ideal S32768x512 .bf16) (x1 : Vec Ideal S32768x1536 .f32) (x2 : Vec Ideal S3x512 .f32)
    (x3 : Vec Ideal S1024x1024 .f32) (x4 : Vec Ideal S32768x1024 .f32) (x5 : Vec Ideal S8x9x1024 .f32) (x6 : Vec Ideal S6x1024 .f32)
    (i : Fin 32768) (q : Fin 1024) :
    val_main_v54 x0 x1 x2 x3 x4 x5 x6 (ix2 i q) = outProj2 x0 x1 x2 x3 x4 x5 x6 i q := by
  have hi : ∀ h, (⟨(i : ℕ) / 8192 * 8192 + i % 8192, h⟩ : Fin 32768) = i := fun _ => Fin.ext (by simp only; omega)
  pointwise [val_main_v0, val_main_v1, val_main_v4, val_main_v5, val_main_v33, val_main_v34, val_main_v35, val_main_v36, val_main_v37, val_main_v38, val_main_cst, val_main_v39, val_main_v40, val_main_cst_0, val_main_v41, val_main_v42, val_main_cst_1, val_main_v43, val_main_v44, val_main_v45, val_main_v46, val_main_v47, val_main_v48, val_main_v49, val_main_v50, val_main_v51, val_main_v52, val_main_v53, val_main_v54, y_at, mixed, outProj2, outRow, rinv, hi]

end Cert.OutAbRefIdeal.Value

end
-- ==== Proof.Dense.lean ====
module

public import proofs.«01_k».proof.Defs
public import proofs.«01_k».proof.Proof.InHyK
public import proofs.«01_k».proof.Proof.InHyR
public import proofs.«01_k».proof.Proof.Gen.InHyRefIdeal.Run
public import proofs.«01_k».proof.Proof.Gen.InHyIdeal
public import proofs.«01_k».proof.Proof.Gen.InHyRefIdeal
public import proofs.«01_k».proof.Proof.InAbK
public import proofs.«01_k».proof.Proof.InAbR
public import proofs.«01_k».proof.Proof.Gen.InAbRefIdeal.Run
public import proofs.«01_k».proof.Proof.Gen.InAbIdeal
public import proofs.«01_k».proof.Proof.Gen.InAbRefIdeal
public import proofs.«01_k».proof.Proof.FfnK
public import proofs.«01_k».proof.Proof.FfnR
public import proofs.«01_k».proof.Proof.Gen.FfnRefIdeal.Run
public import proofs.«01_k».proof.Proof.Gen.FfnIdeal
public import proofs.«01_k».proof.Proof.Gen.FfnRefIdeal
public import proofs.«01_k».proof.Proof.OutHyK
public import proofs.«01_k».proof.Proof.OutHyR
public import proofs.«01_k».proof.Proof.Gen.OutHyRefIdeal.Run
public import proofs.«01_k».proof.Proof.Gen.OutHyIdeal
public import proofs.«01_k».proof.Proof.Gen.OutHyRefIdeal
public import proofs.«01_k».proof.Proof.OutAbK
public import proofs.«01_k».proof.Proof.OutAbR
public import proofs.«01_k».proof.Proof.Gen.OutAbRefIdeal.Run
public import proofs.«01_k».proof.Proof.Gen.OutAbIdeal
public import proofs.«01_k».proof.Proof.Gen.OutAbRefIdeal

@[expose] public section

noncomputable section

open Idealize.ShloMosaic Idealize.ShloMosaic.TcCoe Idealize.SL.Sem

/-! The value claims of the five dense calls: the kernel's result and its reference's are the same function of the arguments. -/

namespace Cert.Layer

/-- The in-projection of the Hyena layers. -/
theorem algebraic_InHy : Cert.algebraic_InHyIdeal_InHyRefIdeal (hInHyIdeal := Cert.InHyIdeal.Gen.facts) (hInHyRefIdeal := Cert.InHyRefIdeal.Gen.facts) := by
  intro m ρ m' ρ' _ hag
  refine ⟨fun c => (Cert.InHyIdeal.Gen.dats m 0 c).arrAt 4 Cert.InHyIdeal.cfg0.N, Cert.InHyIdeal.Value.run_blocks m ρ,
    (θ_run ..).mono (fun r h c => ⟨(h c).1.trans ?_, (h c).2⟩) (Cert.InHyRefIdeal.Value.run m' ρ')⟩
  obtain ⟨e0, e1, e2, e3⟩ := hag c
  refine Eq.trans ?_ (Cert.InHyIdeal.Value.final m c).symm
  rw [Cert.InHyRefIdeal.Read.val_main_v29_eq, e0, e1, e2, e3]
  funext j
  rw [← ix2_eta j]
  exact Cert.InHyRefIdeal.Value.res_at _ _ _ _ (j 0) (j 1)

/-- The out-projection of the Hyena layers. -/
theorem algebraic_OutHy : Cert.algebraic_OutHyIdeal_OutHyRefIdeal (hOutHyIdeal := Cert.OutHyIdeal.Gen.facts) (hOutHyRefIdeal := Cert.OutHyRefIdeal.Gen.facts) := by
  intro m ρ m' ρ' _ hag
  refine ⟨fun c => (Cert.OutHyIdeal.Gen.dats m 0 c).arrAt 5 Cert.OutHyIdeal.cfg0.N, Cert.OutHyIdeal.Value.run_blocks m ρ,
    (θ_run ..).mono (fun r h c => ⟨(h c).1.trans ?_, (h c).2⟩) (Cert.OutHyRefIdeal.Value.run m' ρ')⟩
  obtain ⟨e0, e1, e2, e3, e4⟩ := hag c
  refine Eq.trans ?_ (Cert.OutHyIdeal.Value.final m c).symm
  rw [Cert.OutHyRefIdeal.Read.val_main_v25_eq, e0, e1, e2, e3, e4]
  funext j
  rw [← ix2_eta j]
  exact Cert.OutHyRefIdeal.Value.res_at _ _ _ _ _ (j 0) (j 1)

/-- The feed-forward block. -/
theorem algebraic_Ffn : Cert.algebraic_FfnIdeal_FfnRefIdeal (hFfnIdeal := Cert.FfnIdeal.Gen.facts) (hFfnRefIdeal := Cert.FfnRefIdeal.Gen.facts) := by
  intro m ρ m' ρ' _ hag
  refine ⟨fun c => (Cert.FfnIdeal.Gen.dats m 0 c).arrAt 6 Cert.FfnIdeal.cfg0.N, Cert.FfnIdeal.Value.run_blocks m ρ,
    (θ_run ..).mono (fun r h c => ⟨(h c).1.trans ?_, (h c).2⟩) (Cert.FfnRefIdeal.Value.run m' ρ')⟩
  obtain ⟨e0, e1, e2, e3, e4, e5⟩ := hag c
  refine Eq.trans ?_ (Cert.FfnIdeal.Value.final m c).symm
  rw [Cert.FfnRefIdeal.Read.val_main_v55_eq, e0, e1, e2, e3, e4, e5]
  funext j
  rw [← ix2_eta j]
  exact Cert.FfnRefIdeal.Value.res_at _ _ _ _ _ _ (j 0) (j 1)

/-- The out-projection of the attention layers, with its short convolution. -/
theorem algebraic_OutAb : Cert.algebraic_OutAbIdeal_OutAbRefIdeal (hOutAbIdeal := Cert.OutAbIdeal.Gen.facts) (hOutAbRefIdeal := Cert.OutAbRefIdeal.Gen.facts) := by
  intro m ρ m' ρ' _ hag
  refine ⟨fun c => (Cert.OutAbIdeal.Gen.dats m 0 c).arrAt 9 Cert.OutAbIdeal.cfg0.N, Cert.OutAbIdeal.Value.run_blocks m ρ,
    (θ_run ..).mono (fun r h c => ⟨(h c).1.trans ?_, (h c).2⟩) (Cert.OutAbRefIdeal.Value.run m' ρ')⟩
  obtain ⟨e0, e1, e2, e3, e4, e5, e6⟩ := hag c
  refine Eq.trans ?_ (Cert.OutAbIdeal.Value.final m c).symm
  rw [Cert.OutAbRefIdeal.Read.val_main_v54_eq, e0, e1, e2, e3, e4, e5, e6]
  funext j
  rw [← ix2_eta j]
  exact Cert.OutAbRefIdeal.Value.res_at _ _ _ _ _ _ _ (j 0) (j 1)

/-- The in-projection of the attention layers: the attention's columns and the short convolution's. -/
theorem algebraic_InAb : Cert.algebraic_InAbIdeal_InAbRefIdeal (hInAbIdeal := Cert.InAbIdeal.Gen.facts) (hInAbRefIdeal := Cert.InAbRefIdeal.Gen.facts) := by
  intro m ρ m' ρ' _ hag
  refine ⟨fun c => (Cert.InAbIdeal.Gen.dats m 0 c).arrAt 4 Cert.InAbIdeal.cfg0.N, fun c => (Cert.InAbIdeal.Gen.dats m 0 c).arrAt 5 Cert.InAbIdeal.cfg0.N,
    Cert.InAbIdeal.Value.run_blocks m ρ,
    (θ_run ..).mono (fun r h c => ⟨(h c).1.trans ?_, (h c).2.1.trans ?_, (h c).2.2⟩) (Cert.InAbRefIdeal.Value.run m' ρ')⟩
  all_goals obtain ⟨e0, e1, e2, e3⟩ := hag c
  · refine Eq.trans ?_ (Cert.InAbIdeal.Value.final4 m c).symm
    rw [Cert.InAbRefIdeal.Read.val_main_v31_eq, e0, e1, e2, e3]
    funext j
    rw [← ix2_eta j]
    exact Cert.InAbRefIdeal.Value.res0_at _ _ _ _ (j 0) (j 1)
  · refine Eq.trans ?_ (Cert.InAbIdeal.Value.final5 m c).symm
    rw [Cert.InAbRefIdeal.Read.val_main_v32_eq, e0, e1, e2, e3]
    funext j
    rw [← ix2_eta j]
    exact Cert.InAbRefIdeal.Value.res1_at _ _ _ _ (j 0) (j 1)

end Cert.Layer

end
-- ==== Proof.AttnSpec.lean ====
module

public import proofs.«01_k».proof.Proof.Spec

/-! The row of a neighbourhood attention as both programs compute it, from its logits and values. -/

@[expose] public section

noncomputable section

open Idealize.ShloMosaic

namespace Cert.Layer

/-- The first column of the window of column `c`. -/
def colStart (c : ℕ) : ℕ := min 48 (c - 8)

/-- The first row of the window of row `r`. -/
def rowStart (r : ℕ) : ℕ := min 120 (r - 4)

theorem colStart_le (c : ℕ) : colStart c ≤ 48 := Nat.min_le_left _ _

theorem rowStart_le (r : ℕ) : rowStart r ≤ 120 := Nat.min_le_left _ _

/-- Column `k` lies in the window of column `c`. -/
def inWindow (c k : ℕ) : Prop := colStart c ≤ k ∧ k < colStart c + 16

instance (c k : ℕ) : Decidable (inWindow c k) := inferInstanceAs (Decidable (_ ∧ _))

/-- Column `w` of the window of column `c`. -/
def colAt (c : ℕ) (w : Fin 16) : Fin 64 := ⟨colStart c + w, by have := colStart_le c; have := w.isLt; omega⟩

/-- The logits over the eight whole rows, those outside the column window masked. -/
def maskedLogit (c : ℕ) (lg : Fin 8 → Fin 64 → EReal) (kk : Fin 512) : EReal :=
  if inWindow c (kk % 64) then lg ⟨kk / 64, by omega⟩ ⟨kk % 64, by omega⟩ else ⊥

/-- The logits over the window and the context, in one row. -/
def rowLogit (c : ℕ) (lg : Fin 8 → Fin 64 → EReal) (lc : Fin 256 → EReal) (l : Fin 384) : EReal :=
  if h : (l : ℕ) < 128 then lg ⟨l / 16, by omega⟩ (colAt c ⟨l % 16, by omega⟩) else lc ⟨l - 128, by omega⟩

/-- The attention over the eight whole rows with a mask, normalised at the end. -/
def maskedRow (c : ℕ) (lg : Fin 8 → Fin 64 → EReal) (lc : Fin 256 → EReal) (v : Fin 8 → Fin 64 → EReal) (vc : Fin 256 → EReal) : EReal :=
  let M := max (Finset.univ.fold max ⊥ (maskedLogit c lg)) (Finset.univ.fold max ⊥ lc)
  Ideal.div ((∑ kk : Fin 512, Ideal.exp (maskedLogit c lg kk - M) * v ⟨kk / 64, by omega⟩ ⟨kk % 64, by omega⟩) + ∑ j, Ideal.exp (lc j - M) * vc j)
    ((∑ kk, Ideal.exp (maskedLogit c lg kk - M)) + ∑ j, Ideal.exp (lc j - M))

/-- The attention over the window, its weights normalised first. -/
def windowRow (c : ℕ) (lg : Fin 8 → Fin 64 → EReal) (lc : Fin 256 → EReal) (v : Fin 8 → Fin 64 → EReal) (vc : Fin 256 → EReal) : EReal :=
  let M := Finset.univ.fold max ⊥ (rowLogit c lg lc)
  let D := ∑ l, Ideal.exp (rowLogit c lg lc l - M)
  (∑ y : Fin 8, ∑ k : Fin 64, v y k * ∑ w : Fin 16, (if colAt c w = k then 1 else 0) *
      Ideal.div (Ideal.exp (rowLogit c lg lc ⟨y * 16 + w, by omega⟩ - M)) D)
    + ∑ j : Fin 256, vc j * Ideal.div (Ideal.exp (rowLogit c lg lc ⟨128 + j, by omega⟩ - M)) D

theorem sum_window {α : Type} [AddCommMonoid α] (c : ℕ) (f : Fin 64 → α) :
    (∑ k : Fin 64, if inWindow c k then f k else 0) = ∑ w : Fin 16, f (colAt c w) := by
  symm
  refine Fintype.sum_of_injective (colAt c) (fun a b h => ?_) _ _ (fun k hk => ?_) (fun w => ?_)
  · have := congrArg Fin.val h
    simp only [colAt] at this
    exact Fin.ext (by omega)
  · rw [if_neg]
    rintro ⟨h1, h2⟩
    exact hk ⟨⟨k - colStart c, by omega⟩, Fin.ext (by simp only [colAt]; omega)⟩
  · rw [if_pos]
    exact ⟨by simp only [colAt]; omega, by simp only [colAt]; omega⟩

theorem sum_rows {α : Type} [AddCommMonoid α] (f : Fin 512 → α) :
    ∑ kk, f kk = ∑ y : Fin 8, ∑ k : Fin 64, f ⟨y * 64 + k, by omega⟩ := by
  rw [Fin.sum_univ_tiles 8 64 rfl f]

theorem sum_384 {α : Type} [AddCommMonoid α] (f : Fin 384 → α) :
    ∑ l, f l = (∑ y : Fin 8, ∑ w : Fin 16, f ⟨y * 16 + w, by omega⟩) + ∑ j : Fin 256, f ⟨128 + j, by omega⟩ := by
  rw [show ∑ l, f l = ∑ l : Fin (128 + 256), f l from rfl, Fin.sum_univ_add]
  congr 1
  rw [Fin.sum_univ_tiles 8 16 rfl (fun i : Fin 128 => f (Fin.castAdd 256 i))]
  rfl

theorem masked_at (c : ℕ) (lg : Fin 8 → Fin 64 → EReal) (y : Fin 8) (k : Fin 64) (h : (y : ℕ) * 64 + k < 512) :
    maskedLogit c lg ⟨y * 64 + k, h⟩ = if inWindow c k then lg y k else ⊥ := by
  have e1 : ((y : ℕ) * 64 + k) / 64 = y := by omega
  have e2 : ((y : ℕ) * 64 + k) % 64 = k := by omega
  simp only [maskedLogit, e1, e2]

theorem row_at (c : ℕ) (lg : Fin 8 → Fin 64 → EReal) (lc : Fin 256 → EReal) (y : Fin 8) (w : Fin 16) (h : (y : ℕ) * 16 + w < 384) :
    rowLogit c lg lc ⟨y * 16 + w, h⟩ = lg y (colAt c w) := by
  have e1 : ((y : ℕ) * 16 + w) / 16 = y := by omega
  have e2 : ((y : ℕ) * 16 + w) % 16 = w := by omega
  have e3 : (y : ℕ) * 16 + w < 128 := by omega
  simp only [rowLogit, e1, e2, e3, dif_pos]

theorem row_ctx (c : ℕ) (lg : Fin 8 → Fin 64 → EReal) (lc : Fin 256 → EReal) (j : Fin 256) (h : 128 + (j : ℕ) < 384) :
    rowLogit c lg lc ⟨128 + j, h⟩ = lc j := by
  have e3 : ¬ 128 + (j : ℕ) < 128 := by omega
  rw [rowLogit, dif_neg e3]
  exact congrArg lc (Fin.ext (by simp only; omega))

theorem fold_max_eq {n : ℕ} (f : Fin n → EReal) : Finset.univ.fold max ⊥ f = Finset.univ.sup f := rfl

theorem max_eq (c : ℕ) (lg : Fin 8 → Fin 64 → EReal) (lc : Fin 256 → EReal) :
    max (Finset.univ.fold max ⊥ (maskedLogit c lg)) (Finset.univ.fold max ⊥ lc) = Finset.univ.fold max ⊥ (rowLogit c lg lc) := by
  simp only [fold_max_eq]
  refine le_antisymm (max_le (Finset.sup_le fun kk _ => ?_) (Finset.sup_le fun j _ => ?_)) (Finset.sup_le fun l _ => ?_)
  · unfold maskedLogit
    split_ifs with h
    · refine le_trans (le_of_eq ?_) (Finset.le_sup (f := rowLogit c lg lc) (Finset.mem_univ ⟨(kk : ℕ) / 64 * 16 + (kk % 64 - colStart c), ?_⟩))
      · obtain ⟨h1, h2⟩ := h
        rw [row_at c lg lc ⟨kk / 64, by omega⟩ ⟨kk % 64 - colStart c, by omega⟩]
        exact congrArg (lg _) (Fin.ext (by simp only [colAt]; omega))
      · obtain ⟨h1, h2⟩ := h
        omega
    · exact bot_le
  · rw [← row_ctx c lg lc j (by omega)]
    exact Finset.le_sup (f := rowLogit c lg lc) (Finset.mem_univ _)
  · unfold rowLogit
    split_ifs with h
    · refine le_max_of_le_left (le_trans (le_of_eq ?_) (Finset.le_sup (f := maskedLogit c lg)
        (Finset.mem_univ ⟨(l : ℕ) / 16 * 64 + colAt c ⟨l % 16, by omega⟩, by have := (colAt c ⟨l % 16, by omega⟩).isLt; omega⟩)))
      rw [masked_at c lg ⟨l / 16, by omega⟩, if_pos]
      exact ⟨by simp only [colAt]; omega, by simp only [colAt]; omega⟩
    · exact le_max_of_le_right (Finset.le_sup (f := lc) (Finset.mem_univ _))

theorem max_real {n : ℕ} [NeZero n] (f : Fin n → EReal) (hf : ∀ i, ∃ x : ℝ, f i = x) : ∃ μ : ℝ, Finset.univ.fold max ⊥ f = μ := by
  rw [fold_max_eq]
  have h1 : Finset.univ.sup f < ⊤ := by
    rw [Finset.sup_lt_iff (by exact bot_lt_top)]
    intro i _
    obtain ⟨x, hx⟩ := hf i
    rw [hx]
    exact EReal.coe_lt_top x
  have h2 : ⊥ < Finset.univ.sup f := by
    obtain ⟨x, hx⟩ := hf 0
    refine lt_of_lt_of_le ?_ (Finset.le_sup (f := f) (Finset.mem_univ 0))
    rw [hx]
    exact EReal.bot_lt_coe x
  exact ⟨_, (EReal.coe_toReal h1.ne h2.ne').symm⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sum_mul_coe {ι : Type} (s : Finset ι) (f : ι → EReal) (a : ℝ) (ha : 0 ≤ a) : (∑ i ∈ s, f i) * (a : EReal) = ∑ i ∈ s, f i * a := by
  classical
  induction s using Finset.induction_on with
  | empty => simp
  | insert b s h ih =>
    rw [Finset.sum_insert h, Finset.sum_insert h, EReal.right_distrib_of_nonneg_of_ne_top (EReal.coe_nonneg.mpr ha) (EReal.coe_ne_top a), ih]

/-- The two rows agree when every logit is a real number. -/
theorem maskedRow_eq (c : ℕ) (lg : Fin 8 → Fin 64 → EReal) (lc : Fin 256 → EReal) (v : Fin 8 → Fin 64 → EReal) (vc : Fin 256 → EReal)
    (hg : ∀ y k, ∃ x : ℝ, lg y k = x) (hc : ∀ j, ∃ x : ℝ, lc j = x) : maskedRow c lg lc v vc = windowRow c lg lc v vc := by
  have hL : ∀ l, ∃ x : ℝ, rowLogit c lg lc l = x := fun l => by
    unfold rowLogit
    split_ifs
    · exact hg _ _
    · exact hc _
  obtain ⟨μ, hμ⟩ := max_real _ hL
  unfold maskedRow windowRow
  simp only [max_eq, hμ]
  choose g hg using hg
  choose e he using hc
  have hexp : ∀ x : ℝ, Ideal.exp ((x : EReal) - (μ : EReal)) = (Real.exp (x - μ) : ℝ) := fun x => by
    rw [← EReal.coe_sub]; rfl
  have hbot : Ideal.exp (⊥ - (μ : EReal)) = 0 := by
    rw [EReal.bot_sub]; rfl
  have hm : ∀ (y : Fin 8) (k : Fin 64) (h : (y : ℕ) * 64 + k < 512), Ideal.exp (maskedLogit c lg ⟨y * 64 + k, h⟩ - μ)
      = if inWindow c k then ((Real.exp (g y k - μ) : ℝ) : EReal) else 0 := fun y k h => by
    rw [masked_at]
    split_ifs
    · rw [hg, hexp]
    · exact hbot
  have hv : ∀ (y : Fin 8) (k : Fin 64) (h1 : ((y : ℕ) * 64 + k) / 64 < 8) (h2 : ((y : ℕ) * 64 + k) % 64 < 64),
      v ⟨((y : ℕ) * 64 + k) / 64, h1⟩ ⟨((y : ℕ) * 64 + k) % 64, h2⟩ = v y k := fun y k h1 h2 => by
    congr 1
    · exact Fin.ext (by simp only; omega)
    · exact Fin.ext (by simp only; omega)
  have hD : (∑ l, Ideal.exp (rowLogit c lg lc l - μ))
      = (((∑ y : Fin 8, ∑ w : Fin 16, Real.exp (g y (colAt c w) - μ)) + ∑ j, Real.exp (e j - μ) : ℝ) : EReal) := by
    rw [sum_384]
    simp only [row_at, row_ctx, hg, he, hexp]
    rw [EReal.coe_add, coe_sum, coe_sum]
    simp only [coe_sum]
  have hD' : (∑ kk, Ideal.exp (maskedLogit c lg kk - μ)) + ∑ j, Ideal.exp (lc j - μ)
      = (((∑ y : Fin 8, ∑ w : Fin 16, Real.exp (g y (colAt c w) - μ)) + ∑ j, Real.exp (e j - μ) : ℝ) : EReal) := by
    rw [sum_rows]
    simp only [hm, sum_window, he, hexp]
    rw [EReal.coe_add, coe_sum, coe_sum]
    simp only [coe_sum]
  rw [hD, hD']
  set D : ℝ := (∑ y : Fin 8, ∑ w : Fin 16, Real.exp (g y (colAt c w) - μ)) + ∑ j, Real.exp (e j - μ) with hDdef
  have hpos : 0 < D := by
    refine add_pos_of_nonneg_of_pos (Finset.sum_nonneg fun _ _ => Finset.sum_nonneg fun _ _ => (Real.exp_pos _).le) ?_
    exact Finset.sum_pos (fun _ _ => Real.exp_pos _) Finset.univ_nonempty
  have hdiv : ∀ x : EReal, Ideal.div x (D : EReal) = x * ((D⁻¹ : ℝ) : EReal) := fun x => by rw [Ideal.div_coe hpos.ne', one_div]
  simp only [hdiv, row_at, row_ctx]
  rw [sum_rows, EReal.right_distrib_of_nonneg_of_ne_top (EReal.coe_nonneg.mpr (inv_nonneg.mpr hpos.le)) (EReal.coe_ne_top _),
    sum_mul_coe _ _ _ (inv_nonneg.mpr hpos.le), sum_mul_coe _ _ _ (inv_nonneg.mpr hpos.le)]
  refine congrArg₂ (· + ·) (Finset.sum_congr rfl fun y _ => ?_) (Finset.sum_congr rfl fun j _ => ?_)
  · rw [sum_mul_coe _ _ _ (inv_nonneg.mpr hpos.le)]
    refine Finset.sum_congr rfl fun k _ => ?_
    rw [hm, hv, mul_assoc, mul_left_comm]
    refine congrArg (v y k * ·) ?_
    by_cases hk : inWindow c k
    · rw [if_pos hk]
      obtain ⟨h1, h2⟩ := hk
      have ek : colAt c ⟨k - colStart c, by omega⟩ = k := Fin.ext (by simp only [colAt]; omega)
      rw [Finset.sum_eq_single ⟨k - colStart c, by omega⟩]
      · rw [if_pos ek, one_mul, ek, hg, hexp]
      · intro w _ hw
        rw [if_neg, zero_mul]
        intro h
        exact hw (Fin.ext (by have := congrArg Fin.val h; simp only [colAt] at this; simp only; omega))
      · intro h; exact absurd (Finset.mem_univ _) h
    · rw [if_neg hk, zero_mul]
      symm
      refine Finset.sum_eq_zero fun w _ => ?_
      rw [if_neg, zero_mul]
      intro h
      refine hk ?_
      rw [← h]
      exact ⟨by simp only [colAt]; omega, by simp only [colAt]; omega⟩
  · rw [mul_assoc, mul_left_comm]

/-- The row of the token at `(r, c)` of batch element `b`. -/
def tok (b : Fin 4) (r : Fin 128) (c : Fin 64) : Fin 32768 := ⟨b * 8192 + r * 64 + c, by omega⟩

/-- Feature `d` of head `h` of the queries (0), the keys (1) or the values (2). -/
def feat (p : Fin 3) (h : Fin 8) (d : Fin 64) : Fin 1536 := ⟨p * 512 + h * 64 + d, by omega⟩

/-- The row of context token `j` of batch element `b`. -/
def ctxRow (b : Fin 4) (j : Fin 256) : Fin 1024 := ⟨b * 256 + j, by omega⟩

/-- Row `y` of the window of row `r`. -/
def winRow (r : Fin 128) (y : Fin 8) : Fin 128 := ⟨rowStart r + y, by have := rowStart_le r; omega⟩

/-- The bias row of row `y` of the window of row `r`. -/
def biasRow (r : Fin 128) (y : Fin 8) : Fin 15 := ⟨rowStart r + y + 7 - r, by unfold rowStart; omega⟩

/-- The bias column of column `k` seen from column `c`. -/
def biasCol (c k : Fin 64) : Fin 31 := ⟨min 30 (k + 15 - c), by omega⟩

/-- The scale of the queries. -/
def eighth : EReal := ((1 / 8 : ℝ) : EReal)

section Attention

variable (x : Vec Ideal ⟨2, ![32768, 1536]⟩ .bf16) (xc : Vec Ideal ⟨2, ![1024, 1536]⟩ .bf16) (rpb : Vec Ideal ⟨3, ![8, 15, 31]⟩ .f32)

/-- The logit of the query at `(r, c)` against the key in row `y` of its window and column `k`. -/
def logit (b : Fin 4) (h : Fin 8) (r : Fin 128) (c : Fin 64) (y : Fin 8) (k : Fin 64) : EReal :=
  (∑ d, x (ix2 (tok b r c) (feat 0 h d)) * eighth * x (ix2 (tok b (winRow r y) k) (feat 1 h d))) + rpb (ix3 h (biasRow r y) (biasCol c k))

/-- The logit of the query at `(r, c)` against context key `j`. -/
def logitC (b : Fin 4) (h : Fin 8) (r : Fin 128) (c : Fin 64) (j : Fin 256) : EReal :=
  ∑ d, x (ix2 (tok b r c) (feat 0 h d)) * eighth * xc (ix2 (ctxRow b j) (feat 1 h d))

/-- The value in row `y` of the window of row `r` and column `k`. -/
def valAt (b : Fin 4) (h : Fin 8) (r : Fin 128) (d : Fin 64) (y : Fin 8) (k : Fin 64) : EReal := x (ix2 (tok b (winRow r y) k) (feat 2 h d))

/-- The value of context token `j`. -/
def valC (b : Fin 4) (h : Fin 8) (d : Fin 64) (j : Fin 256) : EReal := xc (ix2 (ctxRow b j) (feat 2 h d))

/-- The attention at a token and a feature, each row in the masked form. -/
def attnMasked (b : Fin 4) (i : Fin 8192) (q : Fin 512) : EReal :=
  maskedRow (i % 64 : ℕ) (logit x rpb b ⟨q / 64, by omega⟩ ⟨i / 64, by omega⟩ ⟨i % 64, by omega⟩)
    (logitC x xc b ⟨q / 64, by omega⟩ ⟨i / 64, by omega⟩ ⟨i % 64, by omega⟩)
    (valAt x b ⟨q / 64, by omega⟩ ⟨i / 64, by omega⟩ ⟨q % 64, by omega⟩) (valC xc b ⟨q / 64, by omega⟩ ⟨q % 64, by omega⟩)

theorem attnMasked_of (b : Fin 4) (h : Fin 8) (r : Fin 128) (c d : Fin 64) (i : Fin 8192) (q : Fin 512) (hi : (i : ℕ) = r * 64 + c) (hq : (q : ℕ) = h * 64 + d) :
    attnMasked x xc rpb b i q = maskedRow c (logit x rpb b h r c) (logitC x xc b h r c) (valAt x b h r d) (valC xc b h d) := by
  have e1 : (⟨i / 64, by omega⟩ : Fin 128) = r := Fin.ext (by show (i : ℕ) / 64 = r; omega)
  have e2 : (⟨i % 64, by omega⟩ : Fin 64) = c := Fin.ext (by show (i : ℕ) % 64 = c; omega)
  have e3 : (⟨q / 64, by omega⟩ : Fin 8) = h := Fin.ext (by show (q : ℕ) / 64 = h; omega)
  have e4 : (⟨q % 64, by omega⟩ : Fin 64) = d := Fin.ext (by show (q : ℕ) % 64 = d; omega)
  have e5 : (i : ℕ) % 64 = c := by omega
  unfold attnMasked
  rw [e1, e2, e3, e4, e5]

end Attention

theorem eighth_f32 : Ideal.ofBits .f32 0x3E000000#32 = eighth := by
  simp [Ideal.ofBits, Ideal.ieee, eighth]
  rw [← EReal.coe_mul]
  norm_num

theorem eighth_bf16 : Ideal.ofBits .bf16 0x3E00#16 = eighth := by
  simp [Ideal.ofBits, Ideal.ieee, eighth]
  rw [← EReal.coe_mul]
  norm_num

theorem neg_inf : Ideal.ofBits .f32 0xFF800000#32 = ⊥ := by
  simp [Ideal.ofBits, Ideal.ieee]

end Cert.Layer

end
-- ==== Proof.AttnPay.lean ====
module

public import proofs.«01_k».proof.Proof.Gen.KernelIdeal.Value
public import proofs.«01_k».proof.Proof.AttnSpec
public import Idealize.ShloMosaic.Lib.Pipeline.ReadBack
public import Idealize.ShloMosaic.Lib.Tactic.WordOmega

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

/-- Lane `d` of the head `h` of a pair. -/
def lane (h : Fin 2) (d : Fin 64) : Fin 128 := ⟨64 * h + d, by omega⟩

theorem sum_half (h : Fin 2) (f : Fin 128 → EReal) : (∑ d : Fin 128, if (d : ℕ) / 64 = h then f d else 0) = ∑ d, f (lane h d) := by
  symm
  refine Fintype.sum_of_injective (lane h) (fun a b e => ?_) _ _ (fun k hk => ?_) (fun w => ?_)
  · have := congrArg Fin.val e
    simp only [lane] at this
    exact Fin.ext (by omega)
  · rw [if_neg]
    intro e
    exact hk ⟨⟨k % 64, by omega⟩, Fin.ext (by simp only [lane]; omega)⟩
  · rw [if_pos]
    simp only [lane]
    omega

theorem pay1_at (c : Fin 64) (l : Fin 128) : k0_pay1 (ix2 c l) = BitVec.ofBool (decide ((l : ℕ) < 64)) := by
  pointwise [k0_pay1]
  word_omega

theorem col_word (k : Fin 512) : IntOp.andi (BitVec.ofNat 32 k) 63#32 = BitVec.ofNat 32 (k % 64) := by
  revert k; decide +kernel

theorem row_word (r : Fin 128) : IntOp.minsi 48#32 (IntOp.maxsi 0#32 (IntOp.subi (IntOp.andi (BitVec.ofNat 32 r) 63#32) 8#32))
    = BitVec.ofNat 32 (colStart (r % 64)) := by
  revert r; decide +kernel

theorem window_word (a : ℕ) (ha : a ≤ 48) (q : ℕ) (hq : q < 64) :
    IntOp.andi (IntOp.cmpi CmpIPredicate.sge (BitVec.ofNat 32 q) (BitVec.ofNat 32 a))
        (IntOp.cmpi CmpIPredicate.slt (BitVec.ofNat 32 q) (IntOp.addi (BitVec.ofNat 32 a) 16#32)) =
      BitVec.ofBool (decide (a ≤ q ∧ q < a + 16)) := by
  have h : ∀ (a : Fin 49) (q : Fin 64),
      IntOp.andi (IntOp.cmpi CmpIPredicate.sge (BitVec.ofNat 32 q) (BitVec.ofNat 32 a))
        (IntOp.cmpi CmpIPredicate.slt (BitVec.ofNat 32 q) (IntOp.addi (BitVec.ofNat 32 a) 16#32)) =
      BitVec.ofBool (decide ((a : ℕ) ≤ q ∧ (q : ℕ) < a + 16)) := by decide +kernel
  exact h ⟨a, by omega⟩ ⟨q, hq⟩

theorem pay2_at (r : Fin 128) (k : Fin 512) : k0_pay2 (ix2 r k) = BitVec.ofBool (decide (inWindow (r % 64) (k % 64))) := by
  pointwise [k0_pay2, inWindow, col_word, row_word]
  exact window_word _ (colStart_le _) _ (Nat.mod_lt _ (by decide))

theorem pay3_at (v : Vec Ideal S1x256x128 .bf16) (j : Fin 256) (l : Fin 128) : k0_pay3 v (ix2 j l) = v (ix3 0 j l) := by
  pointwise [k0_pay3]

theorem pay6_at (v : Vec Ideal S1x512x128 .bf16) (j : Fin 512) (l : Fin 128) : k0_pay6 v (ix2 j l) = v (ix3 0 j l) := by
  pointwise [k0_pay6]

theorem pay5_at (x : Vec Ideal S1x64x128 .bf16) (r l : Fin 128) :
    k0_pay5 k0_pay1 x (ix2 r l) = if (l : ℕ) / 64 = r / 64 then x (ix3 0 ⟨r % 64, by omega⟩ l) * eighth else 0 := by
  pointwise [k0_pay5, pay1_at]
  simp only [eighth_bf16]
  have hr := r.isLt
  have hl := l.isLt
  split_ifs with h1 h2 h3 h4 h5 h6 h7
  all_goals first | rfl | omega | skip
  · rw [show (⟨(r : ℕ) % 64, by omega⟩ : Fin 64) = ⟨r, h1⟩ from Fin.ext (Nat.mod_eq_of_lt h1)]
  · rw [show (⟨(r : ℕ) % 64, by omega⟩ : Fin 64) = ⟨r - 64, by omega⟩ from Fin.ext (by show (r : ℕ) % 64 = r - 64; omega)]
    exact (if_pos (by omega)).symm

theorem pay7_at (x : Vec Ideal S1x64x128 .bf16) (kv : Vec Ideal S1x512x128 .bf16) (bv : Vec Ideal S1x1x128x512 .f32) (r : Fin 128) (k : Fin 512) :
    k0_pay7 k0_pay1 k0_pay2 x kv bv (ix2 r k) = (∑ d : Fin 128, k0_pay5 k0_pay1 x (ix2 r d) * kv (ix3 0 k d))
      + if inWindow (r % 64) (k % 64) then bv (ix4 0 0 r k) else ⊥ := by
  pointwise [k0_pay7, pay2_at]
  split_ifs
  · rfl
  · exact congrArg (_ + ·) (IdealRules.named_const.ideal_named_scalar (φ := .f32) κ "mask" 0xF149F2CA#32 (⊥ : EReal) rfl)

theorem pay8_at (x : Vec Ideal S1x64x128 .bf16) (kc : FVec Ideal S256x128 .bf16) (r : Fin 128) (j : Fin 256) :
    k0_pay8 k0_pay1 kc x (ix2 r j) = ∑ d : Fin 128, k0_pay5 k0_pay1 x (ix2 r d) * kc (ix2 j d) := by
  pointwise [k0_pay8]

theorem pay9_at (x : Vec Ideal S1x64x128 .bf16) (kv : Vec Ideal S1x512x128 .bf16) (bv : Vec Ideal S1x1x128x512 .f32) (r : Fin 128) :
    k0_pay9 k0_pay1 k0_pay2 x kv bv (ix2 r 0) = Finset.univ.fold max ⊥ fun k : Fin 512 => k0_pay7 k0_pay1 k0_pay2 x kv bv (ix2 r k) := by
  pointwise [k0_pay9]
  rw [neg_inf]

/-- The row of the pair's block holding column `c` of the head of lane `l`. -/
def pairRow (c : Fin 64) (l : Fin 128) : Fin 128 := ⟨(l : ℕ) / 64 * 64 + c, by omega⟩

theorem pay4_at (vc : Vec Ideal S1x256x128 .bf16) (v : FVec Ideal S512x128 .bf16) (s : FVec Ideal S128x512 .f32) (t : FVec Ideal S128x256 .f32)
    (m : FVec Ideal S128x1 .f32) (c : Fin 64) (l : Fin 128) :
    k0_pay4 vc v s t m (ix3 0 c l)
      = Ideal.div ((∑ k : Fin 512, Ideal.exp (s (ix2 (pairRow c l) k) - max (m (ix2 (pairRow c l) 0)) (Finset.univ.fold max ⊥ fun j : Fin 256 => t (ix2 (pairRow c l) j))) * v (ix2 k l))
          + ∑ j : Fin 256, Ideal.exp (t (ix2 (pairRow c l) j) - max (m (ix2 (pairRow c l) 0)) (Finset.univ.fold max ⊥ fun j : Fin 256 => t (ix2 (pairRow c l) j))) * vc (ix3 0 j l))
        ((∑ k : Fin 512, Ideal.exp (s (ix2 (pairRow c l) k) - max (m (ix2 (pairRow c l) 0)) (Finset.univ.fold max ⊥ fun j : Fin 256 => t (ix2 (pairRow c l) j))))
          + ∑ j : Fin 256, Ideal.exp (t (ix2 (pairRow c l) j) - max (m (ix2 (pairRow c l) 0)) (Finset.univ.fold max ⊥ fun j : Fin 256 => t (ix2 (pairRow c l) j)))) := by
  pointwise [k0_pay4, pay1_at]
  simp only [neg_inf]
  by_cases h : (l : ℕ) < 64
  · rw [if_pos h, show pairRow c l = ⟨c, by omega⟩ from Fin.ext (by simp only [pairRow]; omega)]
  · rw [if_neg h, show pairRow c l = ⟨64 + c, by omega⟩ from Fin.ext (by simp only [pairRow]; omega)]

end Cert.KernelIdeal.Value

end
-- ==== Proof.AttnLoop.lean ====
module

public import proofs.«01_k».proof.Proof.Gen.KernelIdeal.Value
public import proofs.«01_k».proof.Proof.AttnPay
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

variable (m : (ℓ : Loc nD τ sig) → Buf (Elt Ideal) ℓ) (ρ : Dev nD → PrngReg)

/-- A load at a rectangle of a buffer held whole reads the block of its contents there. -/
theorem read_block {sp : Space} {s : Shape} {e : EltTy} (a : Memref sig .tc sp s e) (h : a.IsWhole) (x : Vec Ideal s e) (r : Rect s) :
    a.view.readAt (Elt Ideal) r.toLoadRect (h.unread x) = fun y => x (r.emb y) := by
  funext y
  exact congrFun (h.read_unread x) (r.emb y)

/-- What trip `k` of the point `i` stores, from the blocks staged there. -/
def tripOut (i : grid0.Coords) (x0 : Vec Ideal S1x512x128 .bf16) (x1 x2 : Vec Ideal S1x8192x128 .bf16) (x3 x4 : Vec Ideal S1x256x128 .bf16)
    (x5 : Vec Ideal S1x8x128x512 .f32) (k : Fin k0_t1_loop.trips) : FVec Ideal S1x64x128 .bf16 :=
  have q : Vec Ideal S1x64x128 .bf16 := fun y => x0 ((Rect.unit (s := S1x512x128) (k0_off1 k) S1x64x128.size (k0_off1_inb k)).emb y)
  have kk : Vec Ideal S1x512x128 .bf16 := fun y => x1 ((Rect.unit (s := S1x8192x128) (k0_off2 i k) S1x512x128.size (k0_off2_inb i k)).emb y)
  have vv : Vec Ideal S1x512x128 .bf16 := fun y => x2 ((Rect.unit (s := S1x8192x128) (k0_off2 i k) S1x512x128.size (k0_off2_inb i k)).emb y)
  have bb : Vec Ideal S1x1x128x512 .f32 := fun y => x5 ((Rect.unit (s := S1x8x128x512) (k0_off3 i k) S1x1x128x512.size (k0_off3_inb i k)).emb y)
  k0_pay4 x4 (k0_pay6 vv) (k0_pay7 k0_pay1 k0_pay2 q kk bb) (k0_pay8 k0_pay1 (k0_pay3 x3) q) (k0_pay9 k0_pay1 k0_pay2 q kk bb)

theorem trip_eq (𝒱 : Variants) (c : Dev nD) (bd : Option 𝒱.V) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x8x128x512 .f32) (harg8 : arg8.IsWhole) (arg9 : Memref sig .tc .vmem S1x512x128 .bf16) (harg9 : arg9.IsWhole) (arg2 : BitVec 32) (x0 : Vec Ideal S1x512x128 .bf16) (x1 x2 : Vec Ideal S1x8192x128 .bf16) (x3 x4 : Vec Ideal S1x256x128 .bf16) (x5 : Vec Ideal S1x8x128x512 .f32) (k : Fin k0_t1_loop.trips) :
    tripL_k0_t1 (F := Ideal) 𝒱 c bd i arg3 harg3 arg4 harg4 arg5 harg5 arg6 harg6 arg7 harg7 arg8 harg8 arg9 harg9 arg2 x3 x4 (harg3.unread x0) (harg4.unread x1) (harg5.unread x2) (harg8.unread x5) k
      = [⟨Rect.unit (s := S1x512x128) (k0_off1 k) S1x64x128.size (k0_off1_inb k), tripOut i x0 x1 x2 x3 x4 x5 k⟩] := by
  unfold tripL_k0_t1 trip_k0_t1
  dsimp only
  sl_unfold_run_names
  simp only [read_block]
  rfl

theorem pieces (𝒱 : Variants) (c : Dev nD) (bd : Option 𝒱.V) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x8x128x512 .f32) (harg8 : arg8.IsWhole) (arg9 : Memref sig .tc .vmem S1x512x128 .bf16) (harg9 : arg9.IsWhole) (arg2 : BitVec 32) (x0 : Vec Ideal S1x512x128 .bf16) (x1 x2 : Vec Ideal S1x8192x128 .bf16) (x3 x4 : Vec Ideal S1x256x128 .bf16) (x5 : Vec Ideal S1x8x128x512 .f32) (n : ℕ) :
    ∀ p ∈ pb_k0_t1 (F := Ideal) 𝒱 c bd i arg3 harg3 arg4 harg4 arg5 harg5 arg6 harg6 arg7 harg7 arg8 harg8 arg9 harg9 arg2 x3 x4 (harg3.unread x0) (harg4.unread x1) (harg5.unread x2) (harg8.unread x5) n,
      ∃ k : Fin k0_t1_loop.trips, p = ⟨Rect.unit (s := S1x512x128) (k0_off1 k) S1x64x128.size (k0_off1_inb k), tripOut i x0 x1 x2 x3 x4 x5 k⟩ := by
  induction n with
  | zero => intro p hp; exact absurd hp (by rw [pb_k0_t1]; exact List.not_mem_nil)
  | succ n ih =>
    intro p hp
    rw [pb_k0_t1] at hp
    unfold pb_k0_t1Step at hp
    split_ifs at hp with h
    · rcases List.mem_append.mp hp with hp | hp
      · rw [trip_eq] at hp
        exact ⟨_, List.mem_singleton.mp hp⟩
      · exact ih p hp
    · exact ih p hp

theorem trips_eq : k0_t1_loop.trips = 8 := by decide

/-- The block of a point, trip by trip. -/
def blockOut (i : grid0.Coords) (x0 : Vec Ideal S1x512x128 .bf16) (x1 x2 : Vec Ideal S1x8192x128 .bf16) (x3 x4 : Vec Ideal S1x256x128 .bf16)
    (x5 : Vec Ideal S1x8x128x512 .f32) : Vec Ideal S1x512x128 .bf16 := fun y =>
  tripOut i x0 x1 x2 x3 x4 x5 ⟨(y 1).val / 64, by have : (y 1).val < 512 := (y 1).isLt; rw [trips_eq]; omega⟩ (ix3 0 ⟨(y 1).val % 64, Nat.mod_lt _ (by decide)⟩ (y 2))

theorem outs_eq (t : Fin cfg0.N) (c : Dev nD) :
    outsAt0 m c t = blockOut (grid0.coords t) (iblk m c 0 t) (iblk m c 1 t) (iblk m c 2 t) (iblk m c 3 t) (iblk m c 4 t) (iblk m c 5 t) := by
  unfold outsAt0
  generalize iblk m c 0 t = x0, iblk m c 1 t = x1, iblk m c 2 t = x2, iblk m c 3 t = x3, iblk m c 4 t = x4, iblk m c 5 t = x5
  funext y
  unfold out0_A_6
  refine View.read_writes_apply_of_pieces VO0_6 VO0_6.junk (blockOut (grid0.coords t) x0 x1 x2 x3 x4 x5) _ ?_ y (cover0_A_6 c _ _ _ _ _ _ _ _ _ _ _ _ _ _ _ _ _ _ _ _ _ y)
  intro p hp
  have hp' : ∃ k : Fin k0_t1_loop.trips, p = ⟨Rect.unit (s := S1x512x128) (k0_off1 k) S1x64x128.size (k0_off1_inb k), tripOut (grid0.coords t) x0 x1 x2 x3 x4 x5 k⟩ := by
    unfold kernelRun0_A at hp
    dsimp only at hp
    rw [View.readAt_full, View.readAt_full, Memref.IsWhole.read_unread, Memref.IsWhole.read_unread] at hp
    exact pieces _ _ _ _ _ _ _ _ _ _ _ _ _ _ _ _ _ _ _ x0 x1 x2 x3 x4 x5 _ p hp
  obtain ⟨k, rfl⟩ := hp'
  have o1 : k0_off1 k 1 = 64 * k.val := by rw [k0_off1_eq]; rfl
  have o2 : k0_off1 k 2 = 0 := by rw [k0_off1_eq]; rfl
  intro (x : S1x64x128.Idx)
  have hx : (x 1).val < 64 := (x 1).isLt
  have e1 : (((Rect.unit (s := S1x512x128) (k0_off1 k) S1x64x128.size (k0_off1_inb k)).emb x) 1 : ℕ) = 64 * k.val + (x 1).val := by
    show k0_off1 k 1 + 1 * (x 1).val = _
    omega
  have e2 : ((Rect.unit (s := S1x512x128) (k0_off1 k) S1x64x128.size (k0_off1_inb k)).emb x) 2 = x 2 := Fin.ext (by
    show k0_off1 k 2 + 1 * (x 2).val = _
    omega)
  show tripOut _ x0 x1 x2 x3 x4 x5 k x = tripOut _ x0 x1 x2 x3 x4 x5 _ _
  congr 1
  · exact Fin.ext (by simp only [e1]; omega)
  · refine (ix3_eta x).symm.trans ?_
    rw [e2]
    have e0 : x 0 = (0 : Fin 1) := Subsingleton.elim (α := Fin 1) _ _
    rw [e0]
    exact congrArg (fun z => ix3 0 z (x 2)) (Fin.ext (by simp only [e1]; omega))

end Cert.KernelIdeal.Value

end
-- ==== Proof.AttnTrip.lean ====
module

public import proofs.«01_k».proof.Proof.Gen.KernelIdeal.Value
public import proofs.«01_k».proof.Proof.AttnLoop
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

/-- The head of lane `l` within its pair. -/
def half (l : Fin 128) : Fin 2 := ⟨l / 64, by omega⟩

/-- A query of the pair against a key, the query's lanes outside its head cleared. -/
theorem half_dot (x : Vec Ideal S1x64x128 .bf16) (f : Fin 128 → EReal) (c : Fin 64) (l : Fin 128) :
    ∑ d : Fin 128, k0_pay5 k0_pay1 x (ix2 (pairRow c l) d) * f d = ∑ d : Fin 64, x (ix3 0 c (lane (half l) d)) * eighth * f (lane (half l) d) := by
  rw [← sum_half (half l) fun d => x (ix3 0 c d) * eighth * f d]
  refine Finset.sum_congr rfl fun d _ => ?_
  have e1 : ((pairRow c l : Fin 128) : ℕ) / 64 = half l := by show ((l : ℕ) / 64 * 64 + c) / 64 = l / 64; omega
  have e2 : (⟨(pairRow c l : Fin 128) % 64, by omega⟩ : Fin 64) = c := Fin.ext (by show ((l : ℕ) / 64 * 64 + c) % 64 = c; omega)
  rw [pay5_at, e1, e2, ite_mul, zero_mul]

/-- The window's logits in a block. -/
def blkLogit (x : Vec Ideal S1x64x128 .bf16) (kv : Vec Ideal S1x512x128 .bf16) (bv : Vec Ideal S1x1x128x512 .f32) (c : Fin 64) (l : Fin 128)
    (y : Fin 8) (k : Fin 64) : EReal :=
  (∑ d : Fin 64, x (ix3 0 c (lane (half l) d)) * eighth * kv (ix3 0 ⟨y * 64 + k, by omega⟩ (lane (half l) d)))
    + bv (ix4 0 0 (pairRow c l) ⟨y * 64 + k, by omega⟩)

/-- The context's logits in a block. -/
def blkLogitC (x : Vec Ideal S1x64x128 .bf16) (kc : Vec Ideal S1x256x128 .bf16) (c : Fin 64) (l : Fin 128) (j : Fin 256) : EReal :=
  ∑ d : Fin 64, x (ix3 0 c (lane (half l) d)) * eighth * kc (ix3 0 j (lane (half l) d))

theorem split_row (kk : Fin 512) : (⟨(kk : ℕ) / 64 * 64 + kk % 64, by omega⟩ : Fin 512) = kk := Fin.ext (by show (kk : ℕ) / 64 * 64 + kk % 64 = kk; omega)

theorem score_at (x : Vec Ideal S1x64x128 .bf16) (kv : Vec Ideal S1x512x128 .bf16) (bv : Vec Ideal S1x1x128x512 .f32) (c : Fin 64) (l : Fin 128) (kk : Fin 512) :
    k0_pay7 k0_pay1 k0_pay2 x kv bv (ix2 (pairRow c l) kk) = maskedLogit c (blkLogit x kv bv c l) kk := by
  have e : ((pairRow c l : Fin 128) : ℕ) % 64 = c := by show ((l : ℕ) / 64 * 64 + c) % 64 = c; omega
  rw [pay7_at, half_dot x (fun d => kv (ix3 0 kk d)), e]
  unfold maskedLogit blkLogit
  split
  · simp only [split_row]
  · exact EReal.add_bot _

theorem scoreC_at (x : Vec Ideal S1x64x128 .bf16) (kc : Vec Ideal S1x256x128 .bf16) (c : Fin 64) (l : Fin 128) (j : Fin 256) :
    k0_pay8 k0_pay1 (k0_pay3 kc) x (ix2 (pairRow c l) j) = blkLogitC x kc c l j := by
  rw [pay8_at, half_dot x (fun d => k0_pay3 kc (ix2 j d))]
  unfold blkLogitC
  simp only [pay3_at]

/-- One row of the image, block by block. -/
theorem row_out (x : Vec Ideal S1x64x128 .bf16) (kv vv : Vec Ideal S1x512x128 .bf16) (kc vc : Vec Ideal S1x256x128 .bf16) (bv : Vec Ideal S1x1x128x512 .f32)
    (c : Fin 64) (l : Fin 128) :
    k0_pay4 vc (k0_pay6 vv) (k0_pay7 k0_pay1 k0_pay2 x kv bv) (k0_pay8 k0_pay1 (k0_pay3 kc) x) (k0_pay9 k0_pay1 k0_pay2 x kv bv) (ix3 0 c l)
      = maskedRow c (blkLogit x kv bv c l) (blkLogitC x kc c l) (fun y k => vv (ix3 0 ⟨y * 64 + k, by omega⟩ l)) (fun j => vc (ix3 0 j l)) := by
  rw [pay4_at]
  simp only [pay9_at, score_at, scoreC_at, pay6_at]
  unfold maskedRow
  simp only [split_row]

end Cert.KernelIdeal.Value

end
-- ==== Proof.AttnTab.lean ====
module

public import proofs.«01_k».proof.Proof.Gen.KernelIdeal.Value
public import proofs.«01_k».proof.Proof.AttnSpec
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

theorem gather_cols (x : Vec Ideal S8x15x31 .f32) (idx : IVec S64x64x1 32) (h : Fin 8) (a : Fin 15) (c k : Fin 64) :
    Host.gather gather_S8x15x31_S64x64x1_S8x15x64x64_01_2_n_n_2_2_8151 x idx (ix4 h a c k)
      = x (ix3 h a ⟨min (idx (ix3 c k 0)).toInt.toNat 30, by omega⟩) := by
  unfold Host.gather
  congr 1
  funext b
  refine Fin.ext ?_
  match b with
  | ⟨0, _⟩ => exact (Nat.zero_add _)
  | ⟨1, _⟩ => exact (Nat.zero_add _)
  | ⟨2, _⟩ =>
    show min (idx _).toInt.toNat 30 = min (idx _).toInt.toNat 30
    refine congrArg (fun z => min (idx z).toInt.toNat 30) ?_
    funext b; refine Fin.ext ?_
    match b with
    | ⟨0, _⟩ => rfl
    | ⟨1, _⟩ => rfl
    | ⟨2, _⟩ => rfl

theorem gather_rows (x : Vec Ideal S8x15x64x64 .f32) (idx : IVec S8x8x1 32) (h a b : Fin 8) (c k : Fin 64) :
    Host.gather gather_S8x15x64x64_S8x8x1_S8x8x8x64x64_034_1_n_n_1_2_816464 x idx (ix5 h a b c k)
      = x (ix4 h ⟨min (idx (ix3 a b 0)).toInt.toNat 14, by omega⟩ c k) := by
  unfold Host.gather
  congr 1
  funext e
  refine Fin.ext ?_
  match e with
  | ⟨0, _⟩ => exact (Nat.zero_add _)
  | ⟨1, _⟩ =>
    show min (idx _).toInt.toNat 14 = min (idx _).toInt.toNat 14
    refine congrArg (fun z => min (idx z).toInt.toNat 14) ?_
    funext b; refine Fin.ext ?_
    match b with
    | ⟨0, _⟩ => rfl
    | ⟨1, _⟩ => rfl
    | ⟨2, _⟩ => rfl
  | ⟨2, _⟩ => exact (Nat.zero_add _)
  | ⟨3, _⟩ => exact (Nat.zero_add _)

variable (m : (ℓ : Loc nD τ sig) → Buf (Elt Ideal) ℓ)

/-- The clipped column differences, and the column of the bias each reads. -/
def colDiff : IVec S64x64 32 :=
  minsi (broadcastInDim S64x64 ![] bcast_S_S64x64 (constantI S_ 32 30#32))
    (maxsi (broadcastInDim S64x64 ![] bcast_S_S64x64 (constantI S_ 32 0#32))
      (addi (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 15#32))))

def colIdx : IVec S64x64x1 32 :=
  broadcastInDim S64x64x1 ![0, 1] bcast_S64x64_S64x64x1_0_1
    (select (cmpi .slt colDiff (broadcastInDim S64x64 ![] bcast_S_S64x64 (constantI S_ 32 0#32)))
      (addi colDiff (broadcastInDim S64x64 ![] bcast_S_S64x64 (constantI S_ 32 31#32))) colDiff)

/-- The row of the bias each pair of an offset and a window row reads. -/
def rowSum : IVec S8x8 32 :=
  addi (broadcastInDim S8x8 ![0, 1] bcast_S8x1_S8x8_0_1 (broadcastInDim S8x1 ![0] bcast_S8_S8x1_0 (iotaInDim S8 32 0)))
    (broadcastInDim S8x8 ![0, 1] bcast_S1x8_S8x8_0_1 (broadcastInDim S1x8 ![1] bcast_S8_S1x8_1 (iotaInDim S8 32 0)))

def rowIdx : IVec S8x8x1 32 :=
  broadcastInDim S8x8x1 ![0, 1] bcast_S8x8_S8x8x1_0_1
    (select (cmpi .slt rowSum (broadcastInDim S8x8 ![] bcast_S_S8x8 (constantI S_ 32 0#32)))
      (addi rowSum (broadcastInDim S8x8 ![] bcast_S_S8x8 (constantI S_ 32 15#32))) rowSum)

theorem colIdx_at (c k : Fin 64) : min (colIdx (ix3 c k 0)).toInt.toNat 30 = min 30 ((k : ℕ) + 15 - c) := by
  have h : ∀ c k : Fin 64, min (IntOp.minsi 30#32 (IntOp.maxsi 0#32 (IntOp.addi (IntOp.subi (BitVec.ofNat 32 k) (BitVec.ofNat 32 c)) 15#32))).toInt.toNat 30
      = min 30 ((k : ℕ) + 15 - c) ∧ IntOp.cmpi .slt (IntOp.minsi 30#32 (IntOp.maxsi 0#32 (IntOp.addi (IntOp.subi (BitVec.ofNat 32 k) (BitVec.ofNat 32 c)) 15#32))) 0#32 = 0#1 := by
    decide +kernel
  obtain ⟨h1, h2⟩ := h c k
  pointwise [colIdx, colDiff, h2]
  exact h1

theorem rowIdx_at (a b : Fin 8) : min (rowIdx (ix3 a b 0)).toInt.toNat 14 = (a : ℕ) + b := by
  have h : ∀ a b : Fin 8, min (IntOp.addi (BitVec.ofNat 32 a) (BitVec.ofNat 32 b)).toInt.toNat 14
      = (a : ℕ) + b ∧ IntOp.cmpi .slt (IntOp.addi (BitVec.ofNat 32 a) (BitVec.ofNat 32 b)) 0#32 = 0#1 := by
    decide +kernel
  obtain ⟨h1, h2⟩ := h a b
  pointwise [rowIdx, rowSum, h2]
  exact h1

theorem idx3_congr {a b c : ℕ} {i i' : Fin a} {j j' : Fin b} {k k' : Fin c} (h1 : i = i') (h2 : j = j') (h3 : k = k') :
    ix3 i j k = ix3 i' j' k' := by
  rw [h1, h2, h3]

/-- The table from the bias `x`. -/
def table (x : Vec Ideal S8x15x31 .f32) : Vec Ideal S4x8x128x512 .f32 :=
  shapeCast S4x8x128x512 (transpose S4x8x2x64x512 [0, 2, 1, 3, 4] (shapeCast S4x2x8x64x512 (shapeCast S8x8x64x512
    (transpose S8x8x64x8x64 [0, 1, 3, 2, 4]
      (Host.gather gather_S8x15x64x64_S8x8x1_S8x8x8x64x64_034_1_n_n_1_2_816464
        (Host.gather gather_S8x15x31_S64x64x1_S8x15x64x64_01_2_n_n_2_2_8151 x colIdx) rowIdx)
      transposes_S8x8x8x64x64_S8x8x64x8x64_0_1_3_2_4) shapeCasts_S8x8x64x8x64_S8x8x64x512) shapeCasts_S8x8x64x512_S4x2x8x64x512)
    transposes_S4x2x8x64x512_S4x8x2x64x512_0_2_1_3_4) shapeCasts_S4x8x2x64x512_S4x8x128x512

theorem tab_eq (c : Dev nD) : V m c main_v37 = table (m ((c : Thread nD τ).loc main_arg2)) := by
  unfold V
  after_reads_simp
  rfl

theorem table_at (x : Vec Ideal S8x15x31 .f32) (hb : Fin 4) (a : Fin 8) (r : Fin 128) (kk : Fin 512) :
    table x (ix4 hb a r kk)
      = x (ix3 ⟨2 * hb + r / 64, by omega⟩ ⟨a + kk / 64, by omega⟩ ⟨min 30 (kk % 64 + 15 - r % 64), by omega⟩) := by
  pointwise [table]
  rw [gather_rows, gather_cols]
  refine congrArg x (idx3_congr (Fin.ext ?_) (Fin.ext ?_) (Fin.ext ?_))
  · show (hb : ℕ) * 2 + r / 64 = 2 * hb + r / 64
    omega
  · exact rowIdx_at a ⟨kk / 64, by omega⟩
  · exact colIdx_at ⟨r % 64, by omega⟩ ⟨kk % 64, by omega⟩

end Cert.KernelIdeal.Value

end
-- ==== Proof.AttnBlk.lean ====
module

public import proofs.«01_k».proof.Proof.Gen.KernelIdeal.Value
public import proofs.«01_k».proof.Proof.AttnTrip
public import proofs.«01_k».proof.Proof.AttnTab
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

variable (m : (ℓ : Loc nD τ sig) → Buf (Elt Ideal) ℓ) (c : Dev nD) (t : Fin grid0.N)

theorem idxs : ∀ t : Fin grid0.N, win0_0.index t = ![t.val / 64, t.val % 16, t.val / 16 % 4] ∧ win0_1.index t = ![t.val / 64, 0, 4 + t.val / 16 % 4]
    ∧ win0_2.index t = ![t.val / 64, 0, 8 + t.val / 16 % 4] ∧ win0_3.index t = ![t.val / 64, 0, 4 + t.val / 16 % 4]
    ∧ win0_4.index t = ![t.val / 64, 0, 8 + t.val / 16 % 4] ∧ win0_5.index t = ![t.val / 16 % 4, 0, 0, 0]
    ∧ win0_6.index t = ![t.val / 64, t.val % 16, t.val / 16 % 4] := by decide +kernel

theorem offs : ∀ (t : Fin grid0.N) (k : Fin k0_t1_loop.trips), k0_off2 (grid0.coords t) k = ![0, 64 * rowStart (t.val % 16 * 8 + k.val), 0]
    ∧ k0_off3 (grid0.coords t) k = ![0, rowStart (t.val % 16 * 8 + k.val) + 7 - (t.val % 16 * 8 + k.val), 0, 0] := by decide +kernel

/-- The batch element of a point. -/
def batchOf (t : Fin grid0.N) : Fin 4 := ⟨t / 64, by have := t.isLt; simp only [N_0] at this; omega⟩

/-- The pair of heads of a point. -/
def pairOf (t : Fin grid0.N) : Fin 4 := ⟨t / 16 % 4, by omega⟩

/-- The head of lane `l` of a point. -/
def headOf (t : Fin grid0.N) (l : Fin 128) : Fin 8 := ⟨t / 16 % 4 * 2 + l / 64, by omega⟩

/-- The row of trip `k` of a point. -/
def rowOf (t : Fin grid0.N) (k : Fin k0_t1_loop.trips) : Fin 128 := ⟨t % 16 * 8 + k, by have := lt_of_lt_of_eq k.isLt trips_eq; omega⟩

/-- The tokens' arrays, one batch element after another. -/
def mainGrid (x : Vec Ideal S32768x1536 .bf16) : Vec Ideal S4x8192x1536 .bf16 := shapeCast S4x8192x1536 x shapeCasts_S32768x1536_S4x8192x1536

/-- The context tokens' arrays, one batch element after another. -/
def ctxGrid (x : Vec Ideal S1024x1536 .bf16) : Vec Ideal S4x256x1536 .bf16 := shapeCast S4x256x1536 x shapeCasts_S1024x1536_S4x256x1536

theorem main_eq : V m c main_v0 = mainGrid (m ((c : Thread nD τ).loc main_arg0)) := by
  unfold V
  after_reads_simp
  rfl

theorem ctx_eq : V m c main_v1 = ctxGrid (m ((c : Thread nD τ).loc main_arg1)) := by
  unfold V
  after_reads_simp
  rfl

theorem mainGrid_at (x : Vec Ideal S32768x1536 .bf16) (b : Fin 4) (i : Fin 8192) (f : Fin 1536) : mainGrid x (ix3 b i f) = x (ix2 ⟨b * 8192 + i, by omega⟩ f) := by
  pointwise [mainGrid]

theorem ctxGrid_at (x : Vec Ideal S1024x1536 .bf16) (b : Fin 4) (i : Fin 256) (f : Fin 1536) : ctxGrid x (ix3 b i f) = x (ix2 ⟨b * 256 + i, by omega⟩ f) := by
  pointwise [ctxGrid]

theorem blk0 (a : Fin 512) (l : Fin 128) :
    iblk m c 0 t (ix3 0 a l) = V m c main_v0 (ix3 (batchOf t) ⟨t % 16 * 512 + a, by omega⟩ ⟨t / 16 % 4 * 128 + l, by omega⟩) := by
  blk_ext [iblk, idxs t, batchOf]

theorem blk1 (a : Fin 8192) (l : Fin 128) :
    iblk m c 1 t (ix3 0 a l) = V m c main_v0 (ix3 (batchOf t) a ⟨512 + (t / 16 % 4 * 128 + l), by omega⟩) := by
  blk_ext [iblk, idxs t, batchOf]

theorem blk2 (a : Fin 8192) (l : Fin 128) :
    iblk m c 2 t (ix3 0 a l) = V m c main_v0 (ix3 (batchOf t) a ⟨1024 + (t / 16 % 4 * 128 + l), by omega⟩) := by
  blk_ext [iblk, idxs t, batchOf]

theorem blk3 (a : Fin 256) (l : Fin 128) :
    iblk m c 3 t (ix3 0 a l) = V m c main_v1 (ix3 (batchOf t) a ⟨512 + (t / 16 % 4 * 128 + l), by omega⟩) := by
  blk_ext [iblk, idxs t, batchOf]

theorem blk4 (a : Fin 256) (l : Fin 128) :
    iblk m c 4 t (ix3 0 a l) = V m c main_v1 (ix3 (batchOf t) a ⟨1024 + (t / 16 % 4 * 128 + l), by omega⟩) := by
  blk_ext [iblk, idxs t, batchOf]

theorem blk5 (a : Fin 8) (r : Fin 128) (kk : Fin 512) : iblk m c 5 t (ix4 0 a r kk) = V m c main_v37 (ix4 (pairOf t) a r kk) := by
  blk_ext [iblk, idxs t, pairOf]

end Cert.KernelIdeal.Value

end
-- ==== Proof.AttnRead.lean ====
module

public import proofs.«01_k».proof.Proof.Gen.KernelIdeal.Value
public import proofs.«01_k».proof.Proof.AttnBlk
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

variable (m : (ℓ : Loc nD τ sig) → Buf (Elt Ideal) ℓ) (c : Dev nD) (t : Fin grid0.N) (k : Fin k0_t1_loop.trips)

theorem q_read (cc : Fin 64) (l : Fin 128) :
    iblk m c 0 t ((Rect.unit (s := S1x512x128) (k0_off1 k) S1x64x128.size (k0_off1_inb k)).emb (ix3 0 cc l))
      = m ((c : Thread nD τ).loc main_arg0) (ix2 (tok (batchOf t) (rowOf t k) cc) ⟨t / 16 % 4 * 128 + l, by omega⟩) := by
  have hk : (k : ℕ) < 8 := lt_of_lt_of_eq k.isLt trips_eq
  have o0 : k0_off1 k 0 = 0 := by rw [k0_off1_eq]; rfl
  have o1 : k0_off1 k 1 = 64 * k.val := by rw [k0_off1_eq]; rfl
  have o2 : k0_off1 k 2 = 0 := by rw [k0_off1_eq]; rfl
  have e : (Rect.unit (s := S1x512x128) (k0_off1 k) S1x64x128.size (k0_off1_inb k)).emb (ix3 0 cc l) = ix3 0 ⟨64 * k + cc, by omega⟩ l := by
    funext a
    refine Fin.ext ?_
    match a with
    | ⟨0, _⟩ => show k0_off1 k 0 + 1 * 0 = 0; omega
    | ⟨1, _⟩ => show k0_off1 k 1 + 1 * (cc : ℕ) = 64 * k + cc; omega
    | ⟨2, _⟩ => show k0_off1 k 2 + 1 * (l : ℕ) = l; omega
  rw [e, blk0, main_eq, mainGrid_at]
  refine congrArg (fun z => m ((c : Thread nD τ).loc main_arg0) (ix2 z _)) (Fin.ext ?_)
  show (t : ℕ) / 64 * 8192 + (t % 16 * 512 + (64 * k + cc)) = t / 64 * 8192 + (t % 16 * 8 + k) * 64 + cc
  omega

theorem off2_emb (y : Fin 8) (q : Fin 64) (l : Fin 128) :
    (Rect.unit (s := S1x8192x128) (k0_off2 (grid0.coords t) k) S1x512x128.size (k0_off2_inb (grid0.coords t) k)).emb (ix3 0 ⟨y * 64 + q, by omega⟩ l)
      = ix3 0 ⟨winRow (rowOf t k) y * 64 + q, by omega⟩ l := by
  have o0 : k0_off2 (grid0.coords t) k 0 = 0 := by rw [(offs t k).1]; rfl
  have o1 : k0_off2 (grid0.coords t) k 1 = 64 * rowStart (t.val % 16 * 8 + k.val) := by rw [(offs t k).1]; rfl
  have o2 : k0_off2 (grid0.coords t) k 2 = 0 := by rw [(offs t k).1]; rfl
  funext a
  refine Fin.ext ?_
  match a with
  | ⟨0, _⟩ => show k0_off2 (grid0.coords t) k 0 + 1 * 0 = 0; omega
  | ⟨1, _⟩ => show k0_off2 (grid0.coords t) k 1 + 1 * ((y : ℕ) * 64 + q) = (rowStart (t % 16 * 8 + k) + y) * 64 + q; omega
  | ⟨2, _⟩ => show k0_off2 (grid0.coords t) k 2 + 1 * (l : ℕ) = l; omega

theorem k_read (y : Fin 8) (q : Fin 64) (l : Fin 128) :
    iblk m c 1 t ((Rect.unit (s := S1x8192x128) (k0_off2 (grid0.coords t) k) S1x512x128.size (k0_off2_inb (grid0.coords t) k)).emb (ix3 0 ⟨y * 64 + q, by omega⟩ l))
      = m ((c : Thread nD τ).loc main_arg0) (ix2 (tok (batchOf t) (winRow (rowOf t k) y) q) ⟨512 + (t / 16 % 4 * 128 + l), by omega⟩) := by
  rw [off2_emb, blk1, main_eq, mainGrid_at]
  refine congrArg (fun z => m ((c : Thread nD τ).loc main_arg0) (ix2 z _)) (Fin.ext ?_)
  exact (Nat.add_assoc _ _ _).symm

theorem v_read (y : Fin 8) (q : Fin 64) (l : Fin 128) :
    iblk m c 2 t ((Rect.unit (s := S1x8192x128) (k0_off2 (grid0.coords t) k) S1x512x128.size (k0_off2_inb (grid0.coords t) k)).emb (ix3 0 ⟨y * 64 + q, by omega⟩ l))
      = m ((c : Thread nD τ).loc main_arg0) (ix2 (tok (batchOf t) (winRow (rowOf t k) y) q) ⟨1024 + (t / 16 % 4 * 128 + l), by omega⟩) := by
  rw [off2_emb, blk2, main_eq, mainGrid_at]
  refine congrArg (fun z => m ((c : Thread nD τ).loc main_arg0) (ix2 z _)) (Fin.ext ?_)
  exact (Nat.add_assoc _ _ _).symm

theorem kc_read (j : Fin 256) (l : Fin 128) :
    iblk m c 3 t (ix3 0 j l) = m ((c : Thread nD τ).loc main_arg1) (ix2 (ctxRow (batchOf t) j) ⟨512 + (t / 16 % 4 * 128 + l), by omega⟩) := by
  rw [blk3, ctx_eq, ctxGrid_at]
  rfl

theorem vc_read (j : Fin 256) (l : Fin 128) :
    iblk m c 4 t (ix3 0 j l) = m ((c : Thread nD τ).loc main_arg1) (ix2 (ctxRow (batchOf t) j) ⟨1024 + (t / 16 % 4 * 128 + l), by omega⟩) := by
  rw [blk4, ctx_eq, ctxGrid_at]
  rfl

theorem b_read (cc : Fin 64) (l : Fin 128) (y : Fin 8) (q : Fin 64) :
    iblk m c 5 t ((Rect.unit (s := S1x8x128x512) (k0_off3 (grid0.coords t) k) S1x1x128x512.size (k0_off3_inb (grid0.coords t) k)).emb
        (ix4 0 0 (pairRow cc l) ⟨y * 64 + q, by omega⟩))
      = m ((c : Thread nD τ).loc main_arg2) (ix3 (headOf t l) (biasRow (rowOf t k) y) (biasCol cc q)) := by
  have hk : (k : ℕ) < 8 := lt_of_lt_of_eq k.isLt trips_eq
  have hr : rowStart (t.val % 16 * 8 + k.val) + 7 - (t.val % 16 * 8 + k.val) < 8 := by unfold rowStart; omega
  have hp : (t.val % 16 * 8 + k.val) ≤ rowStart (t.val % 16 * 8 + k.val) + 7 := by unfold rowStart; omega
  have o0 : k0_off3 (grid0.coords t) k 0 = 0 := by rw [(offs t k).2]; rfl
  have o1 : k0_off3 (grid0.coords t) k 1 = rowStart (t.val % 16 * 8 + k.val) + 7 - (t.val % 16 * 8 + k.val) := by rw [(offs t k).2]; rfl
  have o2 : k0_off3 (grid0.coords t) k 2 = 0 := by rw [(offs t k).2]; rfl
  have o3 : k0_off3 (grid0.coords t) k 3 = 0 := by rw [(offs t k).2]; rfl
  have e : (Rect.unit (s := S1x8x128x512) (k0_off3 (grid0.coords t) k) S1x1x128x512.size (k0_off3_inb (grid0.coords t) k)).emb
        (ix4 0 0 (pairRow cc l) ⟨y * 64 + q, by omega⟩)
      = ix4 0 ⟨rowStart (t.val % 16 * 8 + k.val) + 7 - (t.val % 16 * 8 + k.val), hr⟩ (pairRow cc l) ⟨y * 64 + q, by omega⟩ := by
    funext a
    refine Fin.ext ?_
    match a with
    | ⟨0, _⟩ => show k0_off3 (grid0.coords t) k 0 + 1 * 0 = 0; omega
    | ⟨1, _⟩ => show k0_off3 (grid0.coords t) k 1 + 1 * 0 = _; rw [o1]; rfl
    | ⟨2, _⟩ => show k0_off3 (grid0.coords t) k 2 + 1 * (pairRow cc l : ℕ) = pairRow cc l; omega
    | ⟨3, _⟩ => show k0_off3 (grid0.coords t) k 3 + 1 * ((y : ℕ) * 64 + q) = y * 64 + q; omega
  rw [e, blk5, tab_eq, table_at]
  refine congrArg (m ((c : Thread nD τ).loc main_arg2)) (idx3_congr (Fin.ext ?_) (Fin.ext ?_) (Fin.ext ?_))
  · show 2 * ((t : ℕ) / 16 % 4) + (l / 64 * 64 + cc) / 64 = t / 16 % 4 * 2 + l / 64
    omega
  · show rowStart (t.val % 16 * 8 + k.val) + 7 - (t.val % 16 * 8 + k.val) + ((y : ℕ) * 64 + q) / 64 = rowStart (t.val % 16 * 8 + k.val) + y + 7 - (t.val % 16 * 8 + k.val)
    omega
  · show min 30 (((y : ℕ) * 64 + q) % 64 + 15 - (l / 64 * 64 + cc) % 64) = min 30 ((q : ℕ) + 15 - cc)
    omega

theorem lane_feat (p : Fin 3) (l : Fin 128) (d : Fin 64) (h : (p : ℕ) * 512 + (t / 16 % 4 * 128 + lane (half l) d) < 1536) :
    (⟨(p : ℕ) * 512 + (t / 16 % 4 * 128 + lane (half l) d), h⟩ : Fin 1536) = feat p (headOf t l) d := by
  refine Fin.ext ?_
  show (p : ℕ) * 512 + (t / 16 % 4 * 128 + (64 * (l / 64) + d)) = p * 512 + (t / 16 % 4 * 2 + l / 64) * 64 + d
  omega

theorem own_feat (p : Fin 3) (l : Fin 128) (h : (p : ℕ) * 512 + (t / 16 % 4 * 128 + l) < 1536) :
    (⟨(p : ℕ) * 512 + (t / 16 % 4 * 128 + l), h⟩ : Fin 1536) = feat p (headOf t l) ⟨l % 64, by omega⟩ := by
  refine Fin.ext ?_
  show (p : ℕ) * 512 + (t / 16 % 4 * 128 + l) = p * 512 + (t / 16 % 4 * 2 + l / 64) * 64 + l % 64
  omega

theorem q_feat (cc : Fin 64) (l : Fin 128) (d : Fin 64) :
    iblk m c 0 t ((Rect.unit (s := S1x512x128) (k0_off1 k) S1x64x128.size (k0_off1_inb k)).emb (ix3 0 cc (lane (half l) d)))
      = m ((c : Thread nD τ).loc main_arg0) (ix2 (tok (batchOf t) (rowOf t k) cc) (feat 0 (headOf t l) d)) := by
  rw [q_read]
  refine congrArg (fun z => m ((c : Thread nD τ).loc main_arg0) (ix2 _ z)) (Fin.ext ?_)
  show (t : ℕ) / 16 % 4 * 128 + (64 * (l / 64) + d) = 0 * 512 + (t / 16 % 4 * 2 + l / 64) * 64 + d
  omega

/-- One row of a trip is the masked form of the attention's row. -/
theorem trip_at (cc : Fin 64) (l : Fin 128) :
    tripOut (grid0.coords t) (iblk m c 0 t) (iblk m c 1 t) (iblk m c 2 t) (iblk m c 3 t) (iblk m c 4 t) (iblk m c 5 t) k (ix3 0 cc l)
      = maskedRow cc (logit (m ((c : Thread nD τ).loc main_arg0)) (m ((c : Thread nD τ).loc main_arg2)) (batchOf t) (headOf t l) (rowOf t k) cc)
          (logitC (m ((c : Thread nD τ).loc main_arg0)) (m ((c : Thread nD τ).loc main_arg1)) (batchOf t) (headOf t l) (rowOf t k) cc)
          (valAt (m ((c : Thread nD τ).loc main_arg0)) (batchOf t) (headOf t l) (rowOf t k) ⟨l % 64, by omega⟩)
          (valC (m ((c : Thread nD τ).loc main_arg1)) (batchOf t) (headOf t l) ⟨l % 64, by omega⟩) := by
  unfold tripOut
  dsimp only
  rw [row_out]
  refine congr (congr (congr (congrArg (maskedRow cc) ?_) ?_) ?_) ?_
  · funext y q
    unfold blkLogit logit
    refine congrArg₂ (· + ·) (Finset.sum_congr rfl fun d _ => congrArg₂ (· * ·) (congrArg (· * eighth) (q_feat m c t k cc l d)) ?_) (b_read m c t k cc l y q)
    refine (k_read m c t k y q _).trans ?_
    exact congrArg (fun z => m ((c : Thread nD τ).loc main_arg0) (ix2 _ z)) (lane_feat t 1 l d _)
  · funext j
    unfold blkLogitC logitC
    refine Finset.sum_congr rfl fun d _ => congrArg₂ (· * ·) (congrArg (· * eighth) (q_feat m c t k cc l d)) ?_
    refine (kc_read m c t j _).trans ?_
    exact congrArg (fun z => m ((c : Thread nD τ).loc main_arg1) (ix2 _ z)) (lane_feat t 1 l d _)
  · funext y q
    refine (v_read m c t k y q l).trans ?_
    exact congrArg (fun z => m ((c : Thread nD τ).loc main_arg0) (ix2 _ z)) (own_feat t 2 l _)
  · funext j
    refine (vc_read m c t j l).trans ?_
    exact congrArg (fun z => m ((c : Thread nD τ).loc main_arg1) (ix2 _ z)) (own_feat t 2 l _)

end Cert.KernelIdeal.Value

end
-- ==== Proof.AttnK.lean ====
module

public import proofs.«01_k».proof.Proof.Gen.KernelIdeal.Value
public import proofs.«01_k».proof.Proof.AttnRead
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

variable (m : (ℓ : Loc nD τ sig) → Buf (Elt Ideal) ℓ) (c : Dev nD)

theorem block_at (t : Fin grid0.N) (a : Fin 512) (l : Fin 128) :
    blockOut (grid0.coords t) (iblk m c 0 t) (iblk m c 1 t) (iblk m c 2 t) (iblk m c 3 t) (iblk m c 4 t) (iblk m c 5 t) (ix3 0 a l)
      = attnMasked (m ((c : Thread nD τ).loc main_arg0)) (m ((c : Thread nD τ).loc main_arg1)) (m ((c : Thread nD τ).loc main_arg2))
          (batchOf t) ⟨t % 16 * 512 + a, by omega⟩ ⟨t / 16 % 4 * 128 + l, by omega⟩ := by
  refine (trip_at m c t ⟨a / 64, by rw [trips_eq]; omega⟩ ⟨a % 64, by omega⟩ l).trans ?_
  refine (attnMasked_of _ _ _ _ _ _ _ _ _ _ ?_ ?_).symm
  · show (t : ℕ) % 16 * 512 + a = (t % 16 * 8 + a / 64) * 64 + a % 64
    omega
  · show (t : ℕ) / 16 % 4 * 128 + l = (t / 16 % 4 * 2 + l / 64) * 64 + l % 64
    omega

/-- What the kernel leaves in its result. -/
theorem final : (dats m 0 c).arrAt 6 (cfgs 0).N
    = fun j => attnMasked (m ((c : Thread nD τ).loc main_arg0)) (m ((c : Thread nD τ).loc main_arg1)) (m ((c : Thread nD τ).loc main_arg2)) (j 0) (j 1) (j 2) := by
  refine (dats m 0 c).arrAt_eq_of_covers 6 _ (by decide +kernel) fun t _ y => ?_
  blk_simp
  rw [after0_6, outs_eq]
  obtain ⟨z, a, l, rfl⟩ : ∃ (z : Fin 1) (a : Fin 512) (l : Fin 128), y = ix3 z a l := ⟨y 0, y 1, y 2, (ix3_eta y).symm⟩
  have hz : z = 0 := Subsingleton.elim _ _
  subst hz
  have e : ((View.whole main_v40).slice (win0_6.rect t)).emb (ix3 0 a l) = ix3 (batchOf t) ⟨t % 16 * 512 + a, by omega⟩ ⟨t / 16 % 4 * 128 + l, by omega⟩ := by
    blk_ext [idxs t, batchOf]
  rw [e]
  exact block_at m c t a l

end Cert.KernelIdeal.Value

end
-- ==== Proof.AttnIdx.lean ====
module

public import proofs.«01_k».proof.Proof.Gen.ReferenceIdeal.Read
public import proofs.«01_k».proof.Proof.AttnSpec
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.Layer

theorem gather_rows (x : Vec Ideal S4x128x64x8x64 .f32) (idx : IVec S128x8x1 32) (b : Fin 4) (r : Fin 128) (y : Fin 8) (k : Fin 64) (h : Fin 8) (d : Fin 64) :
    Host.gather gather_S4x128x64x8x64_S128x8x1_S4x128x8x64x8x64_0345_1_n_n_1_2_4164864 x idx (ix6 b r y k h d)
      = x (ix5 b ⟨min (idx (ix3 r y 0)).toInt.toNat 127, by omega⟩ k h d) := by
  unfold Host.gather
  congr 1
  funext e
  refine Fin.ext ?_
  match e with
  | ⟨0, _⟩ => exact (Nat.zero_add _)
  | ⟨1, _⟩ =>
    show min (idx _).toInt.toNat 127 = min (idx _).toInt.toNat 127
    refine congrArg (fun z => min (idx z).toInt.toNat 127) ?_
    funext b; refine Fin.ext ?_
    match b with
    | ⟨0, _⟩ => rfl
    | ⟨1, _⟩ => rfl
    | ⟨2, _⟩ => rfl
  | ⟨2, _⟩ => exact (Nat.zero_add _)
  | ⟨3, _⟩ => exact (Nat.zero_add _)
  | ⟨4, _⟩ => exact (Nat.zero_add _)

theorem gather_bias (x : Vec Ideal S8x15x31 .f32) (idx : IVec S128x64x8x16x2 32) (h : Fin 8) (r : Fin 128) (c : Fin 64) (y : Fin 8) (w : Fin 16) :
    Host.gather gather_S8x15x31_S128x64x8x16x2_S8x128x64x8x16_0_12_n_n_12_4_811 x idx (ix5 h r c y w)
      = x (ix3 h ⟨min (idx (ix5 r c y w 0)).toInt.toNat 14, by omega⟩ ⟨min (idx (ix5 r c y w 1)).toInt.toNat 30, by omega⟩) := by
  unfold Host.gather
  congr 1
  funext e
  refine Fin.ext ?_
  match e with
  | ⟨0, _⟩ => exact (Nat.zero_add _)
  | ⟨1, _⟩ =>
    show min (idx _).toInt.toNat 14 = min (idx _).toInt.toNat 14
    refine congrArg (fun z => min (idx z).toInt.toNat 14) ?_
    funext b; refine Fin.ext ?_
    match b with
    | ⟨0, _⟩ => rfl
    | ⟨1, _⟩ => rfl
    | ⟨2, _⟩ => rfl
    | ⟨3, _⟩ => rfl
    | ⟨4, _⟩ => rfl
  | ⟨2, _⟩ =>
    show min (idx _).toInt.toNat 30 = min (idx _).toInt.toNat 30
    refine congrArg (fun z => min (idx z).toInt.toNat 30) ?_
    funext b; refine Fin.ext ?_
    match b with
    | ⟨0, _⟩ => rfl
    | ⟨1, _⟩ => rfl
    | ⟨2, _⟩ => rfl
    | ⟨3, _⟩ => rfl
    | ⟨4, _⟩ => rfl

theorem row_word (r : Fin 128) (y : Fin 8) : val_main_v29 (F := Ideal) (ix2 r y) = BitVec.ofNat 32 (rowStart r + y) := by
  have h : ∀ (r : Fin 128) (y : Fin 8), IntOp.addi (IntOp.minsi 120#32 (IntOp.maxsi 0#32 (IntOp.subi (BitVec.ofNat 32 r) 4#32))) (BitVec.ofNat 32 y)
      = BitVec.ofNat 32 (rowStart r + y) := by decide +kernel
  pointwise [val_main_v20, val_main_v21, val_main_v22, val_main_v23, val_main_v24, val_main_v25, val_main_v26, val_main_v27, val_main_v28, val_main_v29, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_call0_v0, val_main_call0_v1, val_main_call0_v2, val_main_call0_v3, val_main_call0_v4, val_main_call1_v0, val_main_call1_v1, val_main_call1_v2, val_main_call1_v3, val_main_call1_v4]
  exact h r y

theorem col_word (c : Fin 64) (w : Fin 16) : val_main_v39 (F := Ideal) (ix2 c w) = BitVec.ofNat 32 (colStart c + w) := by
  have h : ∀ (r : Fin 64) (y : Fin 16), IntOp.addi (IntOp.minsi 48#32 (IntOp.maxsi 0#32 (IntOp.subi (BitVec.ofNat 32 r) 8#32))) (BitVec.ofNat 32 y)
      = BitVec.ofNat 32 (colStart r + y) := by decide +kernel
  pointwise [val_main_v30, val_main_v31, val_main_v32, val_main_v33, val_main_v34, val_main_v35, val_main_v36, val_main_v37, val_main_v38, val_main_v39, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_call0_v0, val_main_call0_v1, val_main_call0_v2, val_main_call0_v3, val_main_call0_v4, val_main_call1_v0, val_main_call1_v1, val_main_call1_v2, val_main_call1_v3, val_main_call1_v4]
  exact h c w

theorem row_index (r : Fin 128) (y : Fin 8) : min (val_main_v45 (F := Ideal) (ix3 r y 0)).toInt.toNat 127 = winRow r y := by
  have h : ∀ (r : Fin 128) (y : Fin 8), min (BitVec.ofNat 32 (rowStart r + y)).toInt.toNat 127 = rowStart r + y ∧
      IntOp.cmpi .slt (BitVec.ofNat 32 (rowStart r + y)) 0#32 = 0#1 := by decide +kernel
  obtain ⟨h1, h2⟩ := h r y
  pointwise [val_main_v40, val_main_v41, val_main_v42, val_main_v43, val_main_v44, val_main_v45, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, row_word, h2]
  exact h1

theorem row_index' (r : Fin 128) (y : Fin 8) : min (val_main_v52 (F := Ideal) (ix3 r y 0)).toInt.toNat 127 = winRow r y := row_index r y

theorem bias_row (r : Fin 128) (c : Fin 64) (y : Fin 8) (w : Fin 16) :
    min (val_main_v92 (F := Ideal) (ix5 r c y w 0)).toInt.toNat 14 = biasRow r y := by
  have h : ∀ (r : Fin 128) (y : Fin 8), min (IntOp.addi (IntOp.subi (BitVec.ofNat 32 (rowStart r + y)) (BitVec.ofNat 32 r)) 7#32).toInt.toNat 14 = rowStart r + y + 7 - r ∧
      IntOp.cmpi .slt (IntOp.addi (IntOp.subi (BitVec.ofNat 32 (rowStart r + y)) (BitVec.ofNat 32 r)) 7#32) 0#32 = 0#1 := by decide +kernel
  obtain ⟨h1, h2⟩ := h r y
  pointwise [val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, row_word, h2]
  exact h1

theorem bias_col (r : Fin 128) (c : Fin 64) (y : Fin 8) (w : Fin 16) :
    min (val_main_v92 (F := Ideal) (ix5 r c y w 1)).toInt.toNat 30 = biasCol c (colAt c w) := by
  have h : ∀ (c : Fin 64) (w : Fin 16), min (IntOp.addi (IntOp.subi (BitVec.ofNat 32 (colStart c + w)) (BitVec.ofNat 32 c)) 15#32).toInt.toNat 30 = min 30 (colStart c + w + 15 - c) ∧
      IntOp.cmpi .slt (IntOp.addi (IntOp.subi (BitVec.ofNat 32 (colStart c + w)) (BitVec.ofNat 32 c)) 15#32) 0#32 = 0#1 := by decide +kernel
  obtain ⟨h1, h2⟩ := h c w
  pointwise [val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, col_word, h2]
  exact h1

theorem sel_at (c : Fin 64) (w : Fin 16) (k : Fin 64) : val_main_v60 (F := Ideal) (ix3 c w k) = if colAt c w = k then 1 else 0 := by
  have h : ∀ (c : Fin 64) (w : Fin 16), BitVec.ofNat 32 (colStart c + w) = BitVec.ofNat 32 (colAt c w) := fun c w => rfl
  have h' : ∀ a b : Fin 64, IntOp.cmpi .eq (BitVec.ofNat 32 a) (BitVec.ofNat 32 b) = if a = b then 1#1 else 0#1 := by decide +kernel
  pointwise [val_main_v54, val_main_v55, val_main_v56, val_main_v57, val_main_v58, val_main_v59, val_main_v60, col_word]
  rw [h, h']
  by_cases e : colAt c w = k
  · rw [if_pos e, if_pos e]; simp [FloatOps.uitofp]
  · rw [if_neg e, if_neg e]; simp [FloatOps.uitofp]

end Cert.ReferenceIdeal.Read

end
-- ==== Proof.AttnRef.lean ====
module

public import proofs.«01_k».proof.Proof.AttnIdx
public import Idealize.ShloMosaic.Lib.TwoAxisContraction
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.Layer

variable (x0 : Vec Ideal S32768x1536 .bf16) (x1 : Vec Ideal S1024x1536 .bf16) (x2 : Vec Ideal S8x15x31 .f32)

theorem q_at (b : Fin 4) (r : Fin 128) (c : Fin 64) (h : Fin 8) (d : Fin 64) :
    val_main_v17 x0 (ix5 b r c h d) = x0 (ix2 (tok b r c) (feat 0 h d)) * eighth := by
  have e : x0 (ix2 (tok b r c) (feat 0 h d)) = val_main_v15 x0 (ix5 b r c h d) := by
    pointwise [val_main_v0, val_main_v1, val_main_v2, val_main_v10, val_main_v15]
    exact congrArg₂ (fun a b => x0 (ix2 a b)) (Fin.ext (by unfold tok; show _ = _; simp only; omega)) (Fin.ext (by unfold feat; show _ = _; simp only [Fin.val_zero]; omega))
  pointwise [val_main_v17, val_main_v16, val_main_cst, ← e]
  rw [eighth_f32]

theorem k_at (b : Fin 4) (r : Fin 128) (c : Fin 64) (h : Fin 8) (d : Fin 64) :
    val_main_v18 x0 (ix5 b r c h d) = x0 (ix2 (tok b r c) (feat 1 h d)) := by
  pointwise [val_main_v0, val_main_v1, val_main_v3, val_main_v11, val_main_v18]
  exact congrArg₂ (fun a b => x0 (ix2 a b)) (Fin.ext (by unfold tok; dsimp only; omega)) (Fin.ext (by unfold feat; show _ = 1 * 512 + _ + _; dsimp only; omega))

theorem v_at (b : Fin 4) (r : Fin 128) (c : Fin 64) (h : Fin 8) (d : Fin 64) :
    val_main_v19 x0 (ix5 b r c h d) = x0 (ix2 (tok b r c) (feat 2 h d)) := by
  pointwise [val_main_v0, val_main_v1, val_main_v4, val_main_v12, val_main_v19]
  exact congrArg₂ (fun a b => x0 (ix2 a b)) (Fin.ext (by unfold tok; dsimp only; omega)) (Fin.ext (by unfold feat; show _ = 2 * 512 + _ + _; dsimp only; omega))

theorem kc_at (b : Fin 4) (j : Fin 256) (h : Fin 8) (d : Fin 64) : val_main_v13 x1 (ix4 b j h d) = x1 (ix2 (ctxRow b j) (feat 1 h d)) := by
  pointwise [val_main_v5, val_main_v6, val_main_v8, val_main_v13]
  exact congrArg₂ (fun a b => x1 (ix2 a b)) rfl (Fin.ext (by unfold feat; show _ = 1 * 512 + _ + _; dsimp only; omega))

theorem vc_at (b : Fin 4) (j : Fin 256) (h : Fin 8) (d : Fin 64) : val_main_v14 x1 (ix4 b j h d) = x1 (ix2 (ctxRow b j) (feat 2 h d)) := by
  pointwise [val_main_v5, val_main_v6, val_main_v9, val_main_v14]
  exact congrArg₂ (fun a b => x1 (ix2 a b)) rfl (Fin.ext (by unfold feat; show _ = 2 * 512 + _ + _; dsimp only; omega))

theorem kw_at (b : Fin 4) (r : Fin 128) (y : Fin 8) (k : Fin 64) (h : Fin 8) (d : Fin 64) :
    val_main_v46 x0 (ix6 b r y k h d) = x0 (ix2 (tok b (winRow r y) k) (feat 1 h d)) := by
  unfold val_main_v46
  rw [gather_rows, ← k_at x0]
  exact congrArg (fun z => val_main_v18 x0 (ix5 b z k h d)) (Fin.ext (row_index r y))

theorem vw_at (b : Fin 4) (r : Fin 128) (y : Fin 8) (k : Fin 64) (h : Fin 8) (d : Fin 64) :
    val_main_v53 x0 (ix6 b r y k h d) = x0 (ix2 (tok b (winRow r y) k) (feat 2 h d)) := by
  unfold val_main_v53
  rw [gather_rows, ← v_at x0]
  exact congrArg (fun z => val_main_v19 x0 (ix5 b z k h d)) (Fin.ext (row_index' r y))

theorem bias_at (h : Fin 8) (r : Fin 128) (c : Fin 64) (y : Fin 8) (w : Fin 16) :
    val_main_v93 x2 (ix5 h r c y w) = x2 (ix3 h (biasRow r y) (biasCol c (colAt c w))) := by
  unfold val_main_v93
  rw [gather_bias]
  exact congrArg₂ (fun a b => x2 (ix3 h a b)) (Fin.ext (bias_row r c y w)) (Fin.ext (bias_col r c y w))

theorem dot_at (b : Fin 4) (h : Fin 8) (r : Fin 128) (c : Fin 64) (y : Fin 8) (k : Fin 64) :
    val_main_v61 x0 (ix6 b h r c y k) = ∑ d, x0 (ix2 (tok b r c) (feat 0 h d)) * eighth * x0 (ix2 (tok b (winRow r y) k) (feat 1 h d)) := by
  rw [val_main_v61_apply]
  refine Finset.sum_congr rfl fun d _ => ?_
  rw [← q_at x0, ← kw_at x0]
  exact congrArg₂ (· * ·) (congrArg _ (funext fun a => by match a with | ⟨0, _⟩ => rfl | ⟨1, _⟩ => rfl | ⟨2, _⟩ => rfl | ⟨3, _⟩ => rfl | ⟨4, _⟩ => rfl))
    (congrArg _ (funext fun a => by match a with | ⟨0, _⟩ => rfl | ⟨1, _⟩ => rfl | ⟨2, _⟩ => rfl | ⟨3, _⟩ => rfl | ⟨4, _⟩ => rfl | ⟨5, _⟩ => rfl))

theorem band_at (c : Fin 64) (w : Fin 16) (b : Fin 4) (h : Fin 8) (r : Fin 128) (y : Fin 8) :
    val_main_v62 x0 (ix6 c w b h r y) = val_main_v61 x0 (ix6 b h r c y (colAt c w)) := by
  rw [val_main_v62_apply]
  have e : ∀ k, val_main_v60 (F := Ideal) (lidx_main_v62 (ix6 c w b h r y) k) * val_main_v61 x0 (ridx_main_v62 (ix6 c w b h r y) k)
      = if colAt c w = k then val_main_v61 x0 (ix6 b h r c y k) else 0 := fun k => by
    have e1 : lidx_main_v62 (ix6 c w b h r y) k = ix3 c w k := funext fun a => by match a with | ⟨0, _⟩ => rfl | ⟨1, _⟩ => rfl | ⟨2, _⟩ => rfl
    have e2 : ridx_main_v62 (ix6 c w b h r y) k = ix6 b h r c y k := funext fun a => by
      match a with | ⟨0, _⟩ => rfl | ⟨1, _⟩ => rfl | ⟨2, _⟩ => rfl | ⟨3, _⟩ => rfl | ⟨4, _⟩ => rfl | ⟨5, _⟩ => rfl
    rw [e1, e2, sel_at]
    split
    · exact one_mul _
    · exact zero_mul _
  rw [Finset.sum_congr rfl fun k _ => e k, Finset.sum_ite_eq, if_pos (Finset.mem_univ _)]

theorem win_at (b : Fin 4) (h : Fin 8) (r : Fin 128) (c : Fin 64) (y : Fin 8) (w : Fin 16) :
    val_main_v96 x0 x2 (ix6 b h r c y w) = logit x0 x2 b h r c y (colAt c w) := by
  unfold logit
  rw [← dot_at x0, ← band_at x0, ← bias_at x2]
  pointwise [val_main_v63, val_main_v94, val_main_v95, val_main_v96]

theorem ctx_at (b : Fin 4) (h : Fin 8) (r : Fin 128) (c : Fin 64) (j : Fin 256) :
    val_main_v97 x0 x1 (ix5 b h r c j) = logitC x0 x1 b h r c j := by
  unfold logitC
  rw [val_main_v97_apply]
  refine Finset.sum_congr rfl fun d _ => ?_
  rw [← q_at x0, ← kc_at x1]
  exact congrArg₂ (· * ·) (congrArg _ (funext fun a => by match a with | ⟨0, _⟩ => rfl | ⟨1, _⟩ => rfl | ⟨2, _⟩ => rfl | ⟨3, _⟩ => rfl | ⟨4, _⟩ => rfl))
    (congrArg _ (funext fun a => by match a with | ⟨0, _⟩ => rfl | ⟨1, _⟩ => rfl | ⟨2, _⟩ => rfl | ⟨3, _⟩ => rfl))

end Cert.ReferenceIdeal.Read

end
-- ==== Proof.AttnRows.lean ====
module

public import proofs.«01_k».proof.Proof.AttnRef
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Layer

variable (x0 : Vec Ideal S32768x1536 .bf16) (x1 : Vec Ideal S1024x1536 .bf16) (x2 : Vec Ideal S8x15x31 .f32)

theorem flat_at (x : Vec Ideal S4x8x128x64x8x16 .f32) (b : Fin 4) (h : Fin 8) (r : Fin 128) (c : Fin 64) (l : Fin 128) :
    shapeCast S4x8x128x64x128 x shapeCasts_S4x8x128x64x8x16_S4x8x128x64x128 (ix5 b h r c l) = x (ix6 b h r c ⟨l / 16, by omega⟩ ⟨l % 16, by omega⟩) := by
  pointwise []

theorem split_at (x : Vec Ideal S4x8x128x64x128 .f32) (b : Fin 4) (h : Fin 8) (r : Fin 128) (c : Fin 64) (y : Fin 8) (w : Fin 16) :
    shapeCast S4x8x128x64x8x16 x shapeCasts_S4x8x128x64x128_S4x8x128x64x8x16 (ix6 b h r c y w) = x (ix5 b h r c ⟨y * 16 + w, by omega⟩) := by
  pointwise []

theorem join_at (x : Vec Ideal S4x8x128x64x128 .f32) (z : Vec Ideal S4x8x128x64x256 .f32) (b : Fin 4) (h : Fin 8) (r : Fin 128) (c : Fin 64) (l : Fin 384) :
    concatenate S4x8x128x64x384 4 [⟨S4x8x128x64x128, x⟩, ⟨S4x8x128x64x256, z⟩] concatenates_S4x8x128x64x128_S4x8x128x64x256_S4x8x128x64x384_d4 (ix5 b h r c l)
      = if hl : (l : ℕ) < 128 then x (ix5 b h r c ⟨l, hl⟩) else z (ix5 b h r c ⟨l - 128, by omega⟩) := by
  pointwise []

/-- The logits of a query, as the reference lays them out. -/
abbrev row (b : Fin 4) (h : Fin 8) (r : Fin 128) (c : Fin 64) : Fin 384 → EReal := rowLogit c (logit x0 x2 b h r c) (logitC x0 x1 b h r c)

theorem all_at (b : Fin 4) (h : Fin 8) (r : Fin 128) (c : Fin 64) (l : Fin 384) : val_main_v99 x0 x1 x2 (ix5 b h r c l) = row x0 x1 x2 b h r c l := by
  unfold val_main_v99 val_main_v98 row rowLogit
  rw [join_at]
  split
  · rw [flat_at, win_at]
  · rw [ctx_at]

theorem max_at (b : Fin 4) (h : Fin 8) (r : Fin 128) (c : Fin 64) :
    val_main_v102 x0 x1 x2 (ix4 b h r c) = Finset.univ.fold max ⊥ (row x0 x1 x2 b h r c) := by
  rw [val_main_v102_apply]
  pointwise [val_main_v100, val_main_v101, val_main_cst_15, val_main_cst_16, all_at]
  rw [neg_inf]
  exact max_eq_right bot_le

theorem exp_at (b : Fin 4) (h : Fin 8) (r : Fin 128) (c : Fin 64) (l : Fin 384) :
    val_main_v106 x0 x1 x2 (ix5 b h r c l) = Ideal.exp (row x0 x1 x2 b h r c l - Finset.univ.fold max ⊥ (row x0 x1 x2 b h r c)) := by
  pointwise [val_main_v103, val_main_v104, val_main_v105, val_main_v106, max_at, all_at]

theorem p_at (b : Fin 4) (h : Fin 8) (r : Fin 128) (c : Fin 64) (l : Fin 384) :
    val_main_v110 x0 x1 x2 (ix5 b h r c l) = Ideal.div (Ideal.exp (row x0 x1 x2 b h r c l - Finset.univ.fold max ⊥ (row x0 x1 x2 b h r c)))
      (∑ l, Ideal.exp (row x0 x1 x2 b h r c l - Finset.univ.fold max ⊥ (row x0 x1 x2 b h r c))) := by
  pointwise [val_main_v107, val_main_v108, val_main_v109, val_main_v110, val_main_cst_17, exp_at]

end Cert.ReferenceIdeal.Read

end
-- ==== Proof.AttnDots.lean ====
module

public import proofs.«01_k».proof.Proof.AttnRows
public import Idealize.ShloMosaic.Lib.TwoAxisContraction
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Layer

variable (x0 : Vec Ideal S32768x1536 .bf16) (x1 : Vec Ideal S1024x1536 .bf16) (x2 : Vec Ideal S8x15x31 .f32)

/-- The weight of place `l` of a query's row. -/
abbrev prob (b : Fin 4) (h : Fin 8) (r : Fin 128) (c : Fin 64) (l : Fin 384) : EReal :=
  Ideal.div (Ideal.exp (row x0 x1 x2 b h r c l - Finset.univ.fold max ⊥ (row x0 x1 x2 b h r c)))
    (∑ l, Ideal.exp (row x0 x1 x2 b h r c l - Finset.univ.fold max ⊥ (row x0 x1 x2 b h r c)))

theorem spread_at (c k : Fin 64) (b : Fin 4) (h : Fin 8) (r : Fin 128) (y : Fin 8) :
    val_main_v113 x0 x1 x2 (ix6 c k b h r y) = ∑ w : Fin 16, (if colAt c w = k then 1 else 0) * prob x0 x1 x2 b h r c ⟨y * 16 + w, by omega⟩ := by
  rw [val_main_v113_apply]
  refine Finset.sum_congr rfl fun w _ => ?_
  have e1 : lidx_main_v113 (ix6 c k b h r y) w = ix3 c w k := funext fun a => by match a with | ⟨0, _⟩ => rfl | ⟨1, _⟩ => rfl | ⟨2, _⟩ => rfl
  have e2 : ridx_main_v113 (ix6 c k b h r y) w = ix6 b h r c y w := funext fun a => by
    match a with | ⟨0, _⟩ => rfl | ⟨1, _⟩ => rfl | ⟨2, _⟩ => rfl | ⟨3, _⟩ => rfl | ⟨4, _⟩ => rfl | ⟨5, _⟩ => rfl
  rw [e1, e2, sel_at]
  refine congrArg₂ (· * ·) rfl ?_
  unfold val_main_v112
  rw [split_at]
  pointwise [val_main_v111]
  exact p_at x0 x1 x2 b h r c _

theorem ctxDot_at (b : Fin 4) (h : Fin 8) (d : Fin 64) (r : Fin 128) (c : Fin 64) :
    val_main_v118 x0 x1 x2 (ix5 b h d r c) = ∑ j : Fin 256, valC x1 b h d j * prob x0 x1 x2 b h r c ⟨128 + j, by omega⟩ := by
  rw [val_main_v118_apply]
  refine Finset.sum_congr rfl fun j _ => ?_
  have e1 : lidx_main_v118 (ix5 b h d r c) j = ix4 b j h d := funext fun a => by match a with | ⟨0, _⟩ => rfl | ⟨1, _⟩ => rfl | ⟨2, _⟩ => rfl | ⟨3, _⟩ => rfl
  have e2 : ridx_main_v118 (ix5 b h d r c) j = ix5 b h r c j := funext fun a => by
    match a with | ⟨0, _⟩ => rfl | ⟨1, _⟩ => rfl | ⟨2, _⟩ => rfl | ⟨3, _⟩ => rfl | ⟨4, _⟩ => rfl
  rw [e1, e2, vc_at]
  refine congrArg₂ (· * ·) rfl ?_
  pointwise [val_main_v117]
  exact p_at x0 x1 x2 b h r c _

theorem winDot_at (x : FVec Ideal S4x128x8x64x8x64 .f32) (z : FVec Ideal S4x8x128x64x8x64 .f32) (b : Fin 4) (r : Fin 128) (h : Fin 8) (d c : Fin 64) :
    (Host.dotGeneral dot_S4x128x8x64x8x64_S4x8x128x64x8x64_S4x128x8x64x64_32_54_5_3_014_021 none x z : FVec Ideal S4x128x8x64x64 .f32) (ix5 b r h d c)
      = ∑ k : Fin 64, ∑ y : Fin 8, x (ix6 b r y k h d) * z (ix6 b h r c y k) := by
  pointwise []

theorem weighted_at (b : Fin 4) (r : Fin 128) (h : Fin 8) (d c : Fin 64) :
    val_main_v115 x0 x1 x2 (ix5 b r h d c) = ∑ y : Fin 8, ∑ k : Fin 64, valAt x0 b h r d y k * ∑ w : Fin 16, (if colAt c w = k then 1 else 0) * prob x0 x1 x2 b h r c ⟨y * 16 + w, by omega⟩ := by
  unfold val_main_v115
  rw [winDot_at, Finset.sum_comm]
  refine Finset.sum_congr rfl fun y _ => Finset.sum_congr rfl fun k _ => ?_
  rw [vw_at, ← spread_at]
  refine congrArg₂ (· * ·) rfl ?_
  pointwise [val_main_v114]

/-- The reference's result is the window form of each row. -/
theorem attn_at (b : Fin 4) (r : Fin 128) (c : Fin 64) (h : Fin 8) (d : Fin 64) :
    val_main_v120 x0 x1 x2 (ix5 b r c h d) = windowRow c (logit x0 x2 b h r c) (logitC x0 x1 b h r c) (valAt x0 b h r d) (valC x1 b h d) := by
  rw [val_main_v120_apply]
  refine congrArg₂ (· + ·) (Eq.trans ?_ (weighted_at x0 x1 x2 b r h d c)) (Eq.trans ?_ (ctxDot_at x0 x1 x2 b h d r c))
  · pointwise [val_main_v116]
  · pointwise [val_main_v119]

theorem res_at (b : Fin 4) (i : Fin 8192) (q : Fin 512) :
    val_main_v122 x0 x1 x2 (ix3 b i q) = val_main_v120 x0 x1 x2 (ix5 b ⟨i / 64, by omega⟩ ⟨i % 64, by omega⟩ ⟨q / 64, by omega⟩ ⟨q % 64, by omega⟩) := by
  pointwise [val_main_v121, val_main_v122]

end Cert.ReferenceIdeal.Read

end
-- ==== Proof.Attn.lean ====
module

public import proofs.«01_k».proof.Defs
public import proofs.«01_k».proof.Proof.AttnK
public import proofs.«01_k».proof.Proof.AttnDots
public import proofs.«01_k».proof.Proof.Gen.ReferenceIdeal.Run
public import proofs.«01_k».proof.Proof.Gen.KernelIdeal
public import proofs.«01_k».proof.Proof.Gen.ReferenceIdeal

@[expose] public section

set_option maxRecDepth 16384

noncomputable section

open Idealize.ShloMosaic Idealize.ShloMosaic.TcCoe Idealize.SL.Sem

/-! The value claim of the attention: its masked rows and the reference's windowed rows agree where the logits are finite. -/

namespace Cert.Layer

instance preFacts : Cert.Pre_finite_logit_inputs.Facts := ⟨by decide, by decide, by decide, by decide, by decide⟩

theorem real_of_abs (x : EReal) (h : max x (-x) < ⊤) : ∃ r : ℝ, x = r := by
  induction x with
  | bot => exact absurd h (by simp)
  | coe r => exact ⟨r, rfl⟩
  | top => exact absurd h (by simp)

theorem real_of_word (x : EReal) (h : BitVec.ofBool (decide (max x (-x) < ⊤)) = 1#1) : ∃ r : ℝ, x = r :=
  real_of_abs x (by by_contra hn; rw [decide_eq_false hn] at h; exact absurd h (by decide))

theorem inf_bf16 : Ideal.ofBits .bf16 0x7F80#16 = ⊤ := by
  simp [Ideal.ofBits, Ideal.ieee]

theorem inf_f32 : Ideal.ofBits .f32 0x7F800000#32 = ⊤ := by
  simp [Ideal.ofBits, Ideal.ieee]

section Finite

variable (x : Vec Ideal ⟨2, ![32768, 1536]⟩ .bf16) (xc : Vec Ideal ⟨2, ![1024, 1536]⟩ .bf16) (rpb : Vec Ideal ⟨3, ![8, 15, 31]⟩ .f32)

theorem real_main (h : (Cert.Pre_finite_logit_inputs.fn (F := Ideal) x xc rpb).1 = fun _ => 1#1) (i : Fin 32768) (f : Fin 1024) :
    ∃ r : ℝ, x (ix2 i ⟨f, by omega⟩) = r := by
  have h' := congrFun h (ix2 i f)
  revert h'
  pointwise [Cert.Pre_finite_logit_inputs.fn]
  intro h'
  rw [inf_bf16] at h'
  exact real_of_word _ h'

theorem real_ctx (h : (Cert.Pre_finite_logit_inputs.fn (F := Ideal) x xc rpb).2.1 = fun _ => 1#1) (i : Fin 1024) (f : Fin 512) :
    ∃ r : ℝ, xc (ix2 i ⟨512 + f, by omega⟩) = r := by
  have h' := congrFun h (ix2 i f)
  revert h'
  pointwise [Cert.Pre_finite_logit_inputs.fn]
  intro h'
  rw [inf_bf16] at h'
  exact real_of_word _ h'

theorem real_bias (h : (Cert.Pre_finite_logit_inputs.fn (F := Ideal) x xc rpb).2.2 = fun _ => 1#1) (i : Fin 8) (r : Fin 15) (q : Fin 31) :
    ∃ s : ℝ, rpb (ix3 i r q) = s := by
  have h' := congrFun h (ix3 i r q)
  revert h'
  pointwise [Cert.Pre_finite_logit_inputs.fn]
  intro h'
  rw [inf_f32] at h'
  exact real_of_word _ h'

variable (h1 : (Cert.Pre_finite_logit_inputs.fn (F := Ideal) x xc rpb).1 = fun _ => 1#1)
  (h2 : (Cert.Pre_finite_logit_inputs.fn (F := Ideal) x xc rpb).2.1 = fun _ => 1#1)
  (h3 : (Cert.Pre_finite_logit_inputs.fn (F := Ideal) x xc rpb).2.2 = fun _ => 1#1)

include h1 in
theorem real_feat (p : Fin 2) (i : Fin 32768) (h : Fin 8) (d : Fin 64) : ∃ r : ℝ, x (ix2 i (feat p.castSucc h d)) = r :=
  real_main x xc rpb h1 i ⟨p * 512 + h * 64 + d, by omega⟩

include h1 h3 in
theorem logit_real (b : Fin 4) (h : Fin 8) (r : Fin 128) (c : Fin 64) (y : Fin 8) (k : Fin 64) : ∃ s : ℝ, logit x rpb b h r c y k = s := by
  choose u hu using fun d => real_feat x xc rpb h1 0 (tok b r c) h d
  choose v hv using fun d => real_feat x xc rpb h1 1 (tok b (winRow r y) k) h d
  obtain ⟨w, hw⟩ := real_bias x xc rpb h3 h (biasRow r y) (biasCol c k)
  refine ⟨(∑ d, u d * (1 / 8) * v d) + w, ?_⟩
  rw [EReal.coe_add, coe_sum]
  refine congrArg₂ (· + ·) (Finset.sum_congr rfl fun d _ => ?_) hw
  rw [EReal.coe_mul, EReal.coe_mul]
  exact congrArg₂ (· * ·) (congrArg (· * eighth) (hu d)) (hv d)

include h1 h2 in
theorem logitC_real (b : Fin 4) (h : Fin 8) (r : Fin 128) (c : Fin 64) (j : Fin 256) : ∃ s : ℝ, logitC x xc b h r c j = s := by
  choose u hu using fun d => real_feat x xc rpb h1 0 (tok b r c) h d
  choose v hv using fun d : Fin 64 => real_ctx x xc rpb h2 (ctxRow b j) ⟨h * 64 + d, by omega⟩
  refine ⟨∑ d, u d * (1 / 8) * v d, ?_⟩
  rw [coe_sum]
  refine Finset.sum_congr rfl fun d _ => ?_
  rw [EReal.coe_mul, EReal.coe_mul]
  refine congrArg₂ (· * ·) (congrArg (· * eighth) (hu d)) ((congrArg (fun z => xc (ix2 _ z)) (Fin.ext ?_)).trans (hv d))
  show 1 * 512 + (h : ℕ) * 64 + d = 512 + (h * 64 + d)
  omega

include h1 h2 h3 in
/-- The two forms of the attention agree. -/
theorem attn_eq (b : Fin 4) (i : Fin 8192) (q : Fin 512) :
    Cert.ReferenceIdeal.Read.val_main_v122 x xc rpb (ix3 b i q) = attnMasked x xc rpb b i q := by
  rw [Cert.ReferenceIdeal.Read.res_at, Cert.ReferenceIdeal.Read.attn_at]
  exact (maskedRow_eq _ _ _ _ _ (logit_real x xc rpb h1 h3 _ _ _ _) (logitC_real x xc rpb h1 h2 _ _ _ _)).symm

end Finite

/-- The attention. -/
theorem algebraic_Attn : Cert.algebraic_KernelIdeal_ReferenceIdeal_pre_finite_logit_inputs (hKernelIdeal := Cert.KernelIdeal.Gen.facts)
    (hReferenceIdeal := Cert.ReferenceIdeal.Gen.facts) (hPre_finite_logit_inputs := preFacts) := by
  intro m ρ m' ρ' hp hag
  refine ⟨fun c => (Cert.KernelIdeal.Gen.dats m 0 c).arrAt 6 Cert.KernelIdeal.cfg0.N, Cert.KernelIdeal.Value.run_blocks m ρ,
    (θ_run ..).mono (fun r h c => ⟨(h c).1.trans ?_, (h c).2⟩) (Cert.ReferenceIdeal.Value.run m' ρ')⟩
  obtain ⟨e0, e1, e2⟩ := hag c
  obtain ⟨h1, h2, h3⟩ := hp c
  refine Eq.trans ?_ (Cert.KernelIdeal.Value.final m c).symm
  rw [Cert.ReferenceIdeal.Read.val_main_v122_eq, e0, e1, e2]
  funext j
  refine (congrArg _ (ix3_eta j).symm).trans ?_
  exact attn_eq _ _ _ h1 h2 h3 (j 0) (j 1) (j 2)

end Cert.Layer

end
-- ==== Proof.MoreSpec.lean ====
module

public import proofs.«01_k».proof.Proof.Spec
public import proofs.«01_k».proof.Proof.AttnSpec

/-! The formulas of the small calls: the modulation vectors, the Hyena layers' short convolution with its gate, and the context
tokens' attention. -/

@[expose] public section

set_option maxRecDepth 16384

noncomputable section

open Idealize.ShloMosaic

namespace Cert.Layer

/-- The modulation vector of batch row `b` in layer `i`: the row times its logistic, through the layer's weights, with its bias. -/
def modulation (C : Vec Ideal ⟨2, ![8, 1024]⟩ .f32) (W : Vec Ideal ⟨3, ![4, 1024, 9216]⟩ .f32) (B : Vec Ideal ⟨2, ![4, 9216]⟩ .f32)
    (i : Fin 4) (b : Fin 8) (q : Fin 9216) : EReal :=
  (∑ k, C (ix2 b k) * Ideal.logistic (C (ix2 b k)) * W (ix3 i k q)) + B (ix2 i q)

/-- The short convolution of the Hyena layers at token `i`, channel `k`: the token before, the token and the token after, each
    sequence of 8192 tokens on its own, zeros beyond its ends. -/
def hyConv (A : Vec Ideal ⟨2, ![32768, 3072]⟩ .f32) (C : Vec Ideal ⟨2, ![3, 3072]⟩ .f32) (i : Fin 32768) (k : Fin 3072) : EReal :=
  (if h : (i : ℕ) % 8192 = 0 then 0 else A (ix2 ⟨i - 1, by omega⟩ k)) * C (ix2 0 k) + A (ix2 i k) * C (ix2 1 k)
    + (if h : (i : ℕ) % 8192 = 8191 then 0 else A (ix2 ⟨i + 1, by omega⟩ k)) * C (ix2 2 k)

/-- The first third of the convolved channels, passed on as it is. -/
def hyPass (A : Vec Ideal ⟨2, ![32768, 3072]⟩ .f32) (C : Vec Ideal ⟨2, ![3, 3072]⟩ .f32) (i : Fin 32768) (k : Fin 1024) : EReal :=
  hyConv A C i ⟨0 + k, by omega⟩

/-- The last third of the convolved channels, gated by the second. -/
def hyGate (A : Vec Ideal ⟨2, ![32768, 3072]⟩ .f32) (C : Vec Ideal ⟨2, ![3, 3072]⟩ .f32) (i : Fin 32768) (k : Fin 1024) : EReal :=
  hyConv A C i ⟨2048 + k, by omega⟩ * hyConv A C i ⟨1024 + k, by omega⟩

/-- The attention of one query over 256 keys, normalised at the end. -/
def lateRow (lg v : Fin 256 → EReal) : EReal :=
  Ideal.div (∑ j, Ideal.exp (lg j - Finset.univ.fold max ⊥ lg) * v j) (∑ j, Ideal.exp (lg j - Finset.univ.fold max ⊥ lg))

/-- The attention of one query over 256 keys, its weights normalised first. -/
def softRow (lg v : Fin 256 → EReal) : EReal :=
  ∑ j, v j * Ideal.div (Ideal.exp (lg j - Finset.univ.fold max ⊥ lg)) (∑ j, Ideal.exp (lg j - Finset.univ.fold max ⊥ lg))

/-- The two agree when every logit is a real number. -/
theorem lateRow_eq (lg v : Fin 256 → EReal) (hg : ∀ j, ∃ x : ℝ, lg j = x) : lateRow lg v = softRow lg v := by
  obtain ⟨μ, hμ⟩ := max_real _ hg
  unfold lateRow softRow
  simp only [hμ]
  choose g hg using hg
  have hexp : ∀ x : ℝ, Ideal.exp ((x : EReal) - (μ : EReal)) = (Real.exp (x - μ) : ℝ) := fun x => by
    rw [← EReal.coe_sub]; rfl
  have hD : (∑ j, Ideal.exp (lg j - μ)) = ((∑ j, Real.exp (g j - μ) : ℝ) : EReal) := by
    simp only [hg, hexp]
    rw [coe_sum]
  have hpos : 0 < ∑ j, Real.exp (g j - μ) := Finset.sum_pos (fun _ _ => Real.exp_pos _) Finset.univ_nonempty
  rw [hD]
  simp only [Ideal.div_coe hpos.ne']
  rw [sum_mul_coe _ _ _ (by rw [one_div]; exact inv_nonneg.mpr hpos.le)]
  refine Finset.sum_congr rfl fun j _ => ?_
  rw [mul_assoc, mul_left_comm]

section Context

variable (x : Vec Ideal ⟨2, ![1024, 1536]⟩ .bf16)

/-- The logit of context query `i` against context key `j`. -/
def ctxLogit (b : Fin 4) (h : Fin 8) (i : Fin 256) (j : Fin 256) : EReal :=
  ∑ d, x (ix2 (ctxRow b i) (feat 0 h d)) * eighth * x (ix2 (ctxRow b j) (feat 1 h d))

/-- The context tokens' attention, normalised at the end. -/
def ctxLate (b : Fin 4) (i : Fin 256) (q : Fin 512) : EReal :=
  lateRow (ctxLogit x b ⟨q / 64, by omega⟩ i) (valC x b ⟨q / 64, by omega⟩ ⟨q % 64, by omega⟩)

end Context

end Cert.Layer

end
-- ==== Proof.ModK.lean ====
module

public import proofs.«01_k».proof.Proof.Gen.ModIdeal.Value
public import proofs.«01_k».proof.Proof.MoreSpec
public import Idealize.ShloMosaic.Lib.Pipeline.ReadBack
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.ModIdeal.Value

open Cert.ModIdeal Cert.ModIdeal.Gen Cert.Layer

variable (m : (ℓ : Loc nD τ sig) → Buf (Elt Ideal) ℓ) (c : Dev nD) (t : Fin grid0.N)

theorem idxs : ∀ t : Fin grid0.N, win0_0.index t = ![0, 0] ∧ win0_1.index t = ![t.val / 9, 0, t.val % 9]
    ∧ win0_2.index t = ![t.val / 9, 0, t.val % 9] ∧ win0_3.index t = ![t.val / 9, 0, t.val % 9] := by decide +kernel

/-- The layer of a point. -/
def layerOf (t : Fin grid0.N) : Fin 4 := ⟨t / 9, by have := t.isLt; simp only [N_0] at this; omega⟩

/-- The biases with a row axis of one. -/
def biasRows (x : Vec Ideal S4x9216 .f32) : Vec Ideal S4x1x9216 .f32 := shapeCast S4x1x9216 x shapeCasts_S4x9216_S4x1x9216

theorem bias_eq : V m c main_v0 = biasRows (m ((c : Thread nD τ).loc main_arg2)) := by
  unfold V
  after_reads_simp
  rfl

theorem biasRows_at (x : Vec Ideal S4x9216 .f32) (i : Fin 4) (q : Fin 9216) : biasRows x (ix3 i 0 q) = x (ix2 i q) := by
  pointwise [biasRows]

theorem blk0 (b : Fin 8) (k : Fin 1024) : iblk m c 0 t (ix2 b k) = m ((c : Thread nD τ).loc main_arg0) (ix2 b k) := by
  blk_ext [iblk, V, idxs t]

theorem blk1 (k q : Fin 1024) : iblk m c 1 t (ix3 0 k q) = m ((c : Thread nD τ).loc main_arg1) (ix3 (layerOf t) k ⟨t % 9 * 1024 + q, by omega⟩) := by
  blk_ext [iblk, V, idxs t, layerOf]

theorem blk2 (q : Fin 1024) : iblk m c 2 t (ix3 0 0 q) = m ((c : Thread nD τ).loc main_arg2) (ix2 (layerOf t) ⟨t % 9 * 1024 + q, by omega⟩) := by
  rw [← biasRows_at (m ((c : Thread nD τ).loc main_arg2)), ← bias_eq]
  blk_ext [iblk, idxs t, layerOf]

theorem pay1_at (v0 : Vec Ideal S8x1024 .f32) (v4 : Vec Ideal S1x1024x1024 .f32) (v8 : Vec Ideal S1x1x1024 .f32) (b : Fin 8) (q : Fin 1024) :
    k0_pay1 v0 v4 v8 (ix3 0 b q) = (∑ k, v0 (ix2 b k) * Ideal.logistic (v0 (ix2 b k)) * v4 (ix3 0 k q)) + v8 (ix3 0 0 q) := by
  pointwise [k0_pay1]

/-- What the kernel leaves in its result. -/
theorem final : (dats m 0 c).arrAt 3 (cfgs 0).N
    = fun j => modulation (m ((c : Thread nD τ).loc main_arg0)) (m ((c : Thread nD τ).loc main_arg1)) (m ((c : Thread nD τ).loc main_arg2)) (j 0) (j 1) (j 2) := by
  refine (dats m 0 c).arrAt_eq_of_covers 3 _ (by decide +kernel) fun t _ y => ?_
  blk_simp
  rw [after0_3]
  frame_out
  obtain ⟨z, b, q, rfl⟩ : ∃ (z : Fin 1) (b : Fin 8) (q : Fin 1024), y = ix3 z b q := ⟨y 0, y 1, y 2, (ix3_eta y).symm⟩
  have hz : z = 0 := Subsingleton.elim _ _
  subst hz
  have e : ((View.whole main_v1).slice (win0_3.rect t)).emb (ix3 0 b q) = ix3 (layerOf t) b ⟨t % 9 * 1024 + q, by omega⟩ := by
    blk_ext [idxs t, layerOf]
  rw [e]
  refine (pay1_at _ _ _ b q).trans ?_
  unfold modulation
  refine congrArg₂ (· + ·) (Finset.sum_congr rfl fun k _ => ?_) (blk2 m c t q)
  exact congrArg₂ (· * ·) (congrArg (fun z => z * Ideal.logistic z) (blk0 m c t b k)) (blk1 m c t k q)

end Cert.ModIdeal.Value

end
-- ==== Proof.ModR.lean ====
module

public import proofs.«01_k».proof.Proof.Gen.ModRefIdeal.Read
public import proofs.«01_k».proof.Proof.MoreSpec

@[expose] public section

set_option maxRecDepth 16384

noncomputable section

open Idealize.ShloMosaic Idealize.ShloMosaic.TcCoe Idealize.SL.Sem

namespace Cert.ModRefIdeal.Value

open Cert.ModRefIdeal Cert.ModRefIdeal.Read Cert.Layer

theorem act_at (x0 : Vec Ideal S8x1024 .f32) (b : Fin 8) (k : Fin 1024) : val_main_v0 x0 (ix2 b k) = x0 (ix2 b k) * Ideal.logistic (x0 (ix2 b k)) := by
  pointwise [val_main_call0_v0, val_main_call0_v1, val_main_call0_cst, val_main_call0_v2, val_main_call0_v3, val_main_call0_cst_0, val_main_call0_v4, val_main_call0_v5, val_main_v0]
  rfl

theorem res_at (x0 : Vec Ideal S8x1024 .f32) (x1 : Vec Ideal S4x1024x9216 .f32) (x2 : Vec Ideal S4x9216 .f32) (i : Fin 4) (b : Fin 8) (q : Fin 9216) :
    val_main_v5 x0 x1 x2 (ix3 i b q) = modulation x0 x1 x2 i b q := by
  pointwise [val_main_v1, val_main_v2, val_main_v3, val_main_v4, val_main_v5, act_at, modulation]
  exact congrArg (· + _) (Finset.sum_congr rfl fun k _ => mul_comm _ _)

end Cert.ModRefIdeal.Value

end
-- ==== Proof.HyPreK.lean ====
module

public import proofs.«01_k».proof.Proof.Gen.HyPreIdeal.Value
public import proofs.«01_k».proof.Proof.MoreSpec
public import Idealize.ShloMosaic.Lib.Pipeline.ReadBack

@[expose] public section

set_option maxRecDepth 16384

noncomputable section

open Idealize.ShloMosaic Idealize.ShloMosaic.TcCoe Idealize.SL.Sem

namespace Cert.HyPreIdeal.Value

open Cert.HyPreIdeal Cert.HyPreIdeal.Gen Cert.Layer

/-- The word `t * 256 + r` reduced modulo 8192 is the token's place in its sequence. -/
theorem pos_word (t r n : ℕ) (ht : t < 128) (hr : r < 256) (hn : n < 8192) :
    IntOp.andi (IntOp.addi (Scalar.muli (BitVec.ofNat 32 t) 256#32) (BitVec.ofNat 32 r)) 8191#32 = BitVec.ofNat 32 n
      ↔ (t * 256 + r) % 8192 = n := by
  show (BitVec.ofNat 32 t * 256#32 + BitVec.ofNat 32 r) &&& 8191#32 = BitVec.ofNat 32 n ↔ _
  rw [← BitVec.toNat_inj]
  simp only [BitVec.toNat_and, BitVec.toNat_add, BitVec.toNat_mul, BitVec.toNat_ofNat]
  rw [show (8191 % 2 ^ 32 : ℕ) = 2 ^ 13 - 1 by norm_num, Nat.and_two_pow_sub_one_eq_mod]
  omega

theorem word_eq (r n : ℕ) (hr : r < 256) (hn : n < 256) : BitVec.ofNat 32 r = BitVec.ofNat 32 n ↔ r = n := by
  rw [← BitVec.toNat_inj]
  simp only [BitVec.toNat_ofNat]
  omega

/-- The row over row `r` of block `t`: zero at the head of a sequence, the halo's row over the block's first row. -/
def over (t : ℕ) (x : Vec Ideal S256x1024 .f32) (p : Vec Ideal S1x1024 .f32) (r : Fin 256) (k : Fin 1024) : EReal :=
  if (t * 256 + r) % 8192 = 0 then 0 else if (r : ℕ) = 0 then p (ix2 0 k) else x (ix2 ⟨(r + 256 - 1) % 256, by omega⟩ k)

/-- The row under row `r` of block `t`: zero at the end of a sequence, the halo's row under the block's last row. -/
def under (t : ℕ) (x : Vec Ideal S256x1024 .f32) (p : Vec Ideal S1x1024 .f32) (r : Fin 256) (k : Fin 1024) : EReal :=
  if (t * 256 + r) % 8192 = 8191 then 0 else if (r : ℕ) = 255 then p (ix2 0 k) else x (ix2 ⟨(r + 256 - 255) % 256, by omega⟩ k)

/-- The short convolution of a block of rows between two halo rows. -/
def convBlk (t : ℕ) (x : Vec Ideal S256x1024 .f32) (p n w0 w1 w2 : Vec Ideal S1x1024 .f32) (r : Fin 256) (k : Fin 1024) : EReal :=
  over t x p r k * w0 (ix2 0 k) + x (ix2 r k) * w1 (ix2 0 k) + under t x n r k * w2 (ix2 0 k)

theorem first_at (i : grid0.Coords) (x : Vec Ideal S256x1024 .f32) (p n w0 w1 w2 : Vec Ideal S1x1024 .f32) (r : Fin 256) (k : Fin 1024) :
    k0_pay5 w2 (k0_pay3 i x n) (k0_pay4 i x p w0 w1) (ix2 r k) = convBlk (i 0).val x p n w0 w1 w2 r k := by
  have hi : (i 0 : ℕ) < 128 := (i 0).isLt
  pointwise [k0_pay5, k0_pay4, k0_pay3, k0_pay2, convBlk, over, under]
  simp only [select_eq, pos_word _ _ 0 hi r.isLt (by decide), pos_word _ _ 8191 hi r.isLt (by decide), word_eq _ 0 r.isLt (by decide), word_eq _ 255 r.isLt (by decide), ite_mul, zero_mul]

theorem second_at (t : ℕ) (hi : t < 128) (x : Vec Ideal S256x1024 .f32) (p n w0 w1 w2 : Vec Ideal S1x1024 .f32) (r : Fin 256) (k : Fin 1024) :
    k0_pay11 x w0 w1 w2 (k0_pay7 (BitVec.ofNat 32 t) x p) (k0_pay8 x n) (k0_pay9 (BitVec.ofNat 32 t)) (k0_pay10 (F := Ideal)) (ix2 r k)
      = convBlk t x p n w0 w1 w2 r k := by
  pointwise [k0_pay11, k0_pay7, k0_pay8, k0_pay9, k0_pay10, k0_pay6, convBlk, over, under]
  simp only [select_eq, pos_word _ _ 0 hi r.isLt (by decide), pos_word _ _ 8191 hi r.isLt (by decide), word_eq _ 0 r.isLt (by decide), word_eq _ 255 r.isLt (by decide), ite_mul, zero_mul]

theorem third_at (t : ℕ) (hi : t < 128) (y : FVec Ideal S256x1024 .f32) (x : Vec Ideal S256x1024 .f32) (p n w0 w1 w2 : Vec Ideal S1x1024 .f32) (r : Fin 256) (k : Fin 1024) :
    k0_pay1 y x w0 w1 w2 (k0_pay13 (BitVec.ofNat 32 t) x p) (k0_pay14 x n) (k0_pay15 (BitVec.ofNat 32 t)) (ix2 r k)
      = y (ix2 r k) * convBlk t x p n w0 w1 w2 r k := by
  pointwise [k0_pay1, k0_pay13, k0_pay14, k0_pay15, k0_pay12, convBlk, over, under]
  simp only [select_eq, pos_word _ _ 0 hi r.isLt (by decide), pos_word _ _ 8191 hi r.isLt (by decide), word_eq _ 0 r.isLt (by decide), word_eq _ 255 r.isLt (by decide), ite_mul, zero_mul]

theorem idxs : ∀ t : Fin grid0.N, win0_0.index t = ![t.val, 0] ∧ win0_1.index t = ![t.val * 32 - 1, 0]
    ∧ win0_2.index t = ![min (t.val * 32 + 32) 4095, 0] ∧ win0_3.index t = ![0, 0] ∧ win0_4.index t = ![t.val, 0]
    ∧ win0_5.index t = ![t.val, 0] := by decide +kernel

theorem coord : ∀ t : Fin grid0.N, (grid0.coords t 0 : ℕ) = t.val := by decide +kernel

/-- Row `r` of block `t` as a token. -/
def tok (t : Fin grid0.N) (r : Fin 256) : Fin 32768 := ⟨t * 256 + r, by have := t.isLt; have := r.isLt; simp only [N_0] at *; omega⟩

/-- A block's convolution is the sequence's, at the columns `col`. -/
theorem conv_of (A : Vec Ideal S32768x3072 .f32) (C : Vec Ideal S3x3072 .f32) (t : Fin grid0.N) (col : Fin 1024 → Fin 3072)
    (x : Vec Ideal S256x1024 .f32) (p n w0 w1 w2 : Vec Ideal S1x1024 .f32)
    (hx : ∀ r k, x (ix2 r k) = A (ix2 (tok t r) (col k)))
    (hp : ∀ (h : (t : ℕ) ≠ 0) k, p (ix2 0 k) = A (ix2 ⟨t * 256 - 1, by have := (tok t 0).isLt; simp only [tok] at this; omega⟩ (col k)))
    (hn : ∀ (h : (t : ℕ) < 127) k, n (ix2 0 k) = A (ix2 ⟨t * 256 + 256, by omega⟩ (col k)))
    (h0 : ∀ k, w0 (ix2 0 k) = C (ix2 0 (col k))) (h1 : ∀ k, w1 (ix2 0 k) = C (ix2 1 (col k))) (h2 : ∀ k, w2 (ix2 0 k) = C (ix2 2 (col k)))
    (r : Fin 256) (k : Fin 1024) : convBlk t x p n w0 w1 w2 r k = hyConv A C (tok t r) (col k) := by
  have ht : (t : ℕ) < 128 := t.isLt
  have hr := r.isLt
  unfold convBlk hyConv
  refine congrArg₂ (· + ·) (congrArg₂ (· + ·) (congrArg₂ (· * ·) ?_ (h0 k)) (congrArg₂ (· * ·) (hx r k) (h1 k))) (congrArg₂ (· * ·) ?_ (h2 k))
  · unfold over
    by_cases e : ((t : ℕ) * 256 + r) % 8192 = 0
    · rw [if_pos e, dif_pos (show (tok t r : ℕ) % 8192 = 0 from e)]
    · rw [if_neg e, dif_neg (show ¬ (tok t r : ℕ) % 8192 = 0 from e)]
      by_cases er : (r : ℕ) = 0
      · rw [if_pos er, hp (by omega)]
        refine congrArg (fun z => A (ix2 z _)) (Fin.ext ?_)
        show (t : ℕ) * 256 - 1 = t * 256 + r - 1
        omega
      · rw [if_neg er, hx]
        refine congrArg (fun z => A (ix2 z _)) (Fin.ext ?_)
        show (t : ℕ) * 256 + (r + 256 - 1) % 256 = t * 256 + r - 1
        omega
  · unfold under
    by_cases e : ((t : ℕ) * 256 + r) % 8192 = 8191
    · rw [if_pos e, dif_pos (show (tok t r : ℕ) % 8192 = 8191 from e)]
    · rw [if_neg e, dif_neg (show ¬ (tok t r : ℕ) % 8192 = 8191 from e)]
      by_cases er : (r : ℕ) = 255
      · rw [if_pos er, hn (by omega)]
        refine congrArg (fun z => A (ix2 z _)) (Fin.ext ?_)
        show (t : ℕ) * 256 + 256 = t * 256 + r + 1
        omega
      · rw [if_neg er, hx]
        refine congrArg (fun z => A (ix2 z _)) (Fin.ext ?_)
        show (t : ℕ) * 256 + (r + 256 - 255) % 256 = t * 256 + r + 1
        omega

variable (m : (ℓ : Loc nD τ sig) → Buf (Elt Ideal) ℓ) (c : Dev nD) (t : Fin grid0.N)

theorem conv0 (r : Fin 256) (k : Fin 1024) :
    convBlk t (View.ld (iblk m c 0 t) r0_0) (View.ld (iblk m c 1 t) r0_1) (View.ld (iblk m c 2 t) r0_2) (View.ld (iblk m c 3 t) r0_3)
        (View.ld (iblk m c 3 t) r0_4) (View.ld (iblk m c 3 t) r0_5) r k
      = hyConv (m ((c : Thread nD τ).loc main_arg0)) (m ((c : Thread nD τ).loc main_arg1)) (tok t r) ⟨0 + k, by omega⟩ := by
  have ht : (t : ℕ) < 128 := t.isLt
  refine conv_of _ _ t (fun k => ⟨0 + k, by omega⟩) _ _ _ _ _ _ (fun r k => ?_) (fun h k => ?_) (fun h k => ?_) (fun k => ?_) (fun k => ?_) (fun k => ?_) r k
  all_goals
    pointwise [tok]
    blk_point [iblk, V, idxs t]

theorem conv1 (r : Fin 256) (k : Fin 1024) :
    convBlk t (View.ld (iblk m c 0 t) r0_13) (View.ld (iblk m c 1 t) r0_14) (View.ld (iblk m c 2 t) r0_15) (View.ld (iblk m c 3 t) r0_16)
        (View.ld (iblk m c 3 t) r0_17) (View.ld (iblk m c 3 t) r0_18) r k
      = hyConv (m ((c : Thread nD τ).loc main_arg0)) (m ((c : Thread nD τ).loc main_arg1)) (tok t r) ⟨1024 + k, by omega⟩ := by
  have ht : (t : ℕ) < 128 := t.isLt
  refine conv_of _ _ t (fun k => ⟨1024 + k, by omega⟩) _ _ _ _ _ _ (fun r k => ?_) (fun h k => ?_) (fun h k => ?_) (fun k => ?_) (fun k => ?_) (fun k => ?_) r k
  all_goals
    pointwise [tok]
    blk_point [iblk, V, idxs t]

theorem conv2 (r : Fin 256) (k : Fin 1024) :
    convBlk t (View.ld (iblk m c 0 t) r0_7) (View.ld (iblk m c 1 t) r0_8) (View.ld (iblk m c 2 t) r0_9) (View.ld (iblk m c 3 t) r0_10)
        (View.ld (iblk m c 3 t) r0_11) (View.ld (iblk m c 3 t) r0_12) r k
      = hyConv (m ((c : Thread nD τ).loc main_arg0)) (m ((c : Thread nD τ).loc main_arg1)) (tok t r) ⟨2048 + k, by omega⟩ := by
  have ht : (t : ℕ) < 128 := t.isLt
  refine conv_of _ _ t (fun k => ⟨2048 + k, by omega⟩) _ _ _ _ _ _ (fun r k => ?_) (fun h k => ?_) (fun h k => ?_) (fun k => ?_) (fun k => ?_) (fun k => ?_) r k
  all_goals
    pointwise [tok]
    blk_point [iblk, V, idxs t]

theorem final4 : (dats m 0 c).arrAt 4 (cfgs 0).N
    = fun j => hyPass (m ((c : Thread nD τ).loc main_arg0)) (m ((c : Thread nD τ).loc main_arg1)) (j 0) (j 1) := by
  refine (dats m 0 c).arrAt_eq_of_covers 4 _ (by decide +kernel) fun t _ y => ?_
  blk_simp
  rw [after0_4]
  frame_out
  obtain ⟨r, k, rfl⟩ : ∃ (r : Fin 256) (k : Fin 1024), y = ix2 r k := ⟨y 0, y 1, (ix2_eta y).symm⟩
  have e : ((View.whole main_v0_0).slice (win0_4.rect t)).emb (ix2 r k) = ix2 (tok t r) k := by
    blk_ext [idxs t, tok]
  rw [e, first_at, coord]
  exact conv0 m c t r k

theorem final5 : (dats m 0 c).arrAt 5 (cfgs 0).N
    = fun j => hyGate (m ((c : Thread nD τ).loc main_arg0)) (m ((c : Thread nD τ).loc main_arg1)) (j 0) (j 1) := by
  refine (dats m 0 c).arrAt_eq_of_covers 5 _ (by decide +kernel) fun t _ y => ?_
  have ht : (t : ℕ) < 128 := t.isLt
  blk_simp
  rw [after0_5]
  frame_out
  obtain ⟨r, k, rfl⟩ : ∃ (r : Fin 256) (k : Fin 1024), y = ix2 r k := ⟨y 0, y 1, (ix2_eta y).symm⟩
  have e : ((View.whole main_v0_1).slice (win0_5.rect t)).emb (ix2 r k) = ix2 (tok t r) k := by
    blk_ext [idxs t, tok]
  rw [e, coord, third_at t ht, second_at t ht]
  exact congrArg₂ (· * ·) (conv2 m c t r k) (conv1 m c t r k)

end Cert.HyPreIdeal.Value

end
-- ==== Proof.HyPreR.lean ====
module

public import proofs.«01_k».proof.Proof.Gen.HyPreRefIdeal.Read
public import proofs.«01_k».proof.Proof.MoreSpec

@[expose] public section

set_option maxRecDepth 16384

noncomputable section

open Idealize.ShloMosaic Idealize.ShloMosaic.TcCoe Idealize.SL.Sem

namespace Cert.HyPreRefIdeal.Value

open Cert.HyPreRefIdeal Cert.HyPreRefIdeal.Read Cert.Layer

variable (x0 : Vec Ideal S32768x3072 .f32) (x1 : Vec Ideal S3x3072 .f32)

set_option maxHeartbeats 1000000 in
theorem conv_at (i : Fin 32768) (k : Fin 3072) : val_main_v21 x0 x1 (ix3 ⟨i / 8192, by omega⟩ ⟨i % 8192, by omega⟩ k) = hyConv x0 x1 i k := by
  have h0 : FloatOps.sitofp (F := Ideal) FTy.f32 0#32 = (0 : EReal) := by
    show (((0#32 : BitVec 32).toInt : ℝ) : EReal) = 0
    simp
  have hk := k.isLt
  have hi := i.isLt
  have hj : ∀ h, (⟨(i : ℕ) / 8192 * 8192 + i % 8192, h⟩ : Fin 32768) = i := fun _ => Fin.ext (by simp only; omega)
  pointwise [val_main_v0, val_main_c, val_main_call0_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, hyConv, h0, hj]
  rw [dif_pos (show (i : ℕ) / 8192 < 4 ∧ (i : ℕ) % 8192 < 8192 by omega)]
  refine congrArg₂ (· + ·) (congrArg (· + _) (congrArg (· * _) ?_)) (congrArg (· * _) ?_)
  · by_cases h : (i : ℕ) % 8192 = 0
    · rw [dif_neg (by omega), dif_pos h]
    · have e : ∀ h, (⟨(i : ℕ) / 8192 * 8192 + (i % 8192 - 1), h⟩ : Fin 32768) = ⟨i - 1, by omega⟩ :=
        fun _ => Fin.ext (by simp only; omega)
      rw [dif_pos (by omega), dif_neg h]
      simp only [e]
  · by_cases h : (i : ℕ) % 8192 = 8191
    · rw [dif_neg (by omega), dif_pos h]
    · have e : ∀ h, (⟨(i : ℕ) / 8192 * 8192 + (2 + i % 8192 - 1), h⟩ : Fin 32768) = ⟨i + 1, by omega⟩ :=
        fun _ => Fin.ext (by simp only; omega)
      rw [dif_pos (by omega), dif_neg h]
      simp only [e]

theorem res0_at (i : Fin 32768) (k : Fin 1024) : val_main_v25 x0 x1 (ix2 i k) = hyPass x0 x1 i k := by
  unfold hyPass
  rw [← conv_at]
  pointwise [val_main_v22, val_main_v25]

theorem res1_at (i : Fin 32768) (k : Fin 1024) :
    val_main_v27 x0 x1 (ix2 i k) = hyGate x0 x1 i k := by
  unfold hyGate
  rw [← conv_at, ← conv_at]
  pointwise [val_main_v23, val_main_v24, val_main_v26, val_main_v27]

end Cert.HyPreRefIdeal.Value

end
-- ==== Proof.CtxK.lean ====
module

public import proofs.«01_k».proof.Proof.Gen.CtxIdeal.Value
public import proofs.«01_k».proof.Proof.MoreSpec
public import proofs.«01_k».proof.Proof.AttnPay
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.CtxIdeal.Value

open Cert.CtxIdeal Cert.CtxIdeal.Gen Cert.Layer

/-- A block's scaled queries twice over, one head of the pair cleared in each copy. -/
def pairQ (v3 : Vec Ideal S1x256x128 .bf16) : FVec Ideal S512x128 .bf16 :=
  have v0 : IVec S256x128 32 := iota .tc S256x128 32 [1] iota_S256x128_d1_w32
  have v1 : IVec S256x128 32 := broadcast S256x128 64#32
  have v2 : IVec S256x128 1 := cmpi .slt v0 v1
  have v4 : FVec Ideal S256x128 .bf16 := shapeCast S256x128 v3 shapeCasts_S1x256x128_S256x128
  have cst : Ideal .bf16 := Scalar.ofBits .bf16 0x3E00#16
  have v5 : FVec Ideal S256x128 .bf16 := broadcast S256x128 cst
  have v6 : FVec Ideal S256x128 .bf16 := mulf v4 v5
  have cst_2 : Ideal .bf16 := Scalar.ofBits .bf16 0x0000#16
  have v7 : FVec Ideal S256x128 .bf16 := broadcast S256x128 cst_2
  have v8 : FVec Ideal S256x128 .bf16 := select v2 v6 v7
  have v9 : FVec Ideal S256x128 .bf16 := select v2 v7 v6
  concatenate S512x128 0 [⟨S256x128, v8⟩, ⟨S256x128, v9⟩] concatenates_S256x128_S256x128_S512x128_d0

/-- The logits of both copies against the block's keys. -/
def scores (v3 : Vec Ideal S1x256x128 .bf16) (v11 : Vec Ideal S1x256x128 .bf16) : FVec Ideal S512x256 .f32 :=
  have v12 : FVec Ideal S256x128 .bf16 := shapeCast S256x128 v11 shapeCasts_S1x256x128_S256x128
  have cst_6 : FVec Ideal S512x256 .f32 := constant S512x256 .f32 0x00000000#32
  matmul dot_S512x128_S256x128_S512x256_1_1_0_0_n_n none (pairQ v3) v12 cst_6

/-- The block's result from its logits and its values. -/
def outOf (v13 : FVec Ideal S512x256 .f32) (v20 : Vec Ideal S1x256x128 .bf16) : FVec Ideal S1x256x128 .bf16 :=
  have v0 : IVec S256x128 32 := iota .tc S256x128 32 [1] iota_S256x128_d1_w32
  have v1 : IVec S256x128 32 := broadcast S256x128 64#32
  have v2 : IVec S256x128 1 := cmpi .slt v0 v1
  have v14 : FVec Ideal S512 .f32 := multiReduction .maximumf [1] S512 v13 0xFF800000#32 reduces_S512x256_S512 (.inl rfl) rfl
  have v15 : FVec Ideal S512x1 .f32 := shapeCast S512x1 v14 shapeCasts_S512_S512x1
  have v16 : FVec Ideal S512x256 .f32 := broadcastTo S512x256 v15 broadcasts_S512x1_S512x256
  have v17 : FVec Ideal S512x256 .f32 := subf v13 v16
  have v18 : FVec Ideal S512x256 .f32 := exp v17
  have v19 : FVec Ideal S512x256 .bf16 := truncf .bf16 v18 bitsLt_bf16_f32
  have v21 : FVec Ideal S256x128 .bf16 := shapeCast S256x128 v20 shapeCasts_S1x256x128_S256x128
  have cst_11 : FVec Ideal S512x128 .f32 := constant S512x128 .f32 0x00000000#32
  have v22 : FVec Ideal S512x128 .f32 := matmul dot_S512x256_S256x128_S512x128_1_0_0_1_n_n none v19 v21 cst_11
  have v23 : FVec Ideal S512 .f32 := multiReduction .add [1] S512 v18 0x00000000#32 reduces_S512x256_S512 (.inl rfl) rfl
  have v24 : FVec Ideal S512x1 .f32 := shapeCast S512x1 v23 shapeCasts_S512_S512x1
  have v25 : FVec Ideal S512x128 .f32 := broadcastTo S512x128 v24 broadcasts_S512x1_S512x128
  have v26 : FVec Ideal S512x128 .f32 := divf v22 v25
  have v27 : FVec Ideal S256x128 .f32 := extractStridedSlice S256x128 ![0, 0] v26 slices_S512x128_o0_0_S256x128
  have v28 : FVec Ideal S256x128 .f32 := extractStridedSlice S256x128 ![256, 0] v26 slices_S512x128_o256_0_S256x128
  have v29 : FVec Ideal S256x128 .f32 := select v2 v27 v28
  have v30 : FVec Ideal S256x128 .bf16 := truncf .bf16 v29 bitsLt_bf16_f32
  shapeCast S1x256x128 v30 shapeCasts_S256x128_S1x256x128

theorem pay1_eq (q k v : Vec Ideal S1x256x128 .bf16) : k0_pay1 q k v = outOf (scores q k) v := rfl

/-- The row of the doubled block that holds query `i` for the head of lane `l`. -/
def pairRow (i : Fin 256) (l : Fin 128) : Fin 512 := ⟨l / 64 * 256 + i, by omega⟩

theorem pairQ_at (x : Vec Ideal S1x256x128 .bf16) (r : Fin 512) (l : Fin 128) :
    pairQ x (ix2 r l) = if (l : ℕ) / 64 = r / 256 then x (ix3 0 ⟨r % 256, by omega⟩ l) * eighth else 0 := by
  have hr := r.isLt
  have hl := l.isLt
  have hw : IntOp.cmpi CmpIPredicate.slt (BitVec.ofNat 32 l) 64#32 = BitVec.ofBool (decide ((l : ℕ) < 64)) := by
    word_omega
  pointwise [pairQ, hw]
  simp only [eighth_bf16]
  split_ifs with h1 h2 h3 h4 h5 h6 h7
  all_goals first | rfl | omega | skip
  · rw [show (⟨(r : ℕ) % 256, by omega⟩ : Fin 256) = ⟨r, h1⟩ from Fin.ext (Nat.mod_eq_of_lt h1)]
  · rw [show (⟨(r : ℕ) % 256, by omega⟩ : Fin 256) = ⟨r - 256, by omega⟩ from Fin.ext (by show (r : ℕ) % 256 = r - 256; omega)]
    exact (if_pos (by omega)).symm

theorem scores_at (q k : Vec Ideal S1x256x128 .bf16) (r : Fin 512) (j : Fin 256) :
    scores q k (ix2 r j) = ∑ d : Fin 128, pairQ q (ix2 r d) * k (ix3 0 j d) := by
  pointwise [scores]

theorem outOf_at (s : FVec Ideal S512x256 .f32) (v : Vec Ideal S1x256x128 .bf16) (i : Fin 256) (l : Fin 128) :
    outOf s v (ix3 0 i l) = lateRow (fun j => s (ix2 (pairRow i l) j)) (fun j => v (ix3 0 j l)) := by
  have hw : IntOp.cmpi CmpIPredicate.slt (BitVec.ofNat 32 l) 64#32 = BitVec.ofBool (decide ((l : ℕ) < 64)) := by
    word_omega
  pointwise [outOf, lateRow, hw]
  simp only [neg_inf]
  by_cases h : (l : ℕ) < 64
  · rw [if_pos h, show pairRow i l = ⟨i, by omega⟩ from Fin.ext (by simp only [pairRow]; omega)]
  · rw [if_neg h, show pairRow i l = ⟨256 + i, by omega⟩ from Fin.ext (by simp only [pairRow]; omega)]

/-- The logit of a query against a key of a block, over the lanes of one head. -/
theorem head_at (q k : Vec Ideal S1x256x128 .bf16) (i : Fin 256) (l : Fin 128) (j : Fin 256) :
    scores q k (ix2 (pairRow i l) j) = ∑ d : Fin 64, q (ix3 0 i (Cert.KernelIdeal.Value.lane ⟨l / 64, by omega⟩ d)) * eighth
      * k (ix3 0 j (Cert.KernelIdeal.Value.lane ⟨l / 64, by omega⟩ d)) := by
  have e1 : ((pairRow i l : Fin 512) : ℕ) / 256 = l / 64 := by simp only [pairRow]; omega
  have e2 : ∀ h, (⟨((pairRow i l : Fin 512) : ℕ) % 256, h⟩ : Fin 256) = i := fun _ => Fin.ext (by simp only [pairRow]; omega)
  rw [scores_at, ← Cert.KernelIdeal.Value.sum_half ⟨l / 64, by omega⟩ (fun d => q (ix3 0 i d) * eighth * k (ix3 0 j d))]
  refine Finset.sum_congr rfl fun d _ => ?_
  rw [pairQ_at, e1, e2, ite_mul, zero_mul]

variable (m : (ℓ : Loc nD τ sig) → Buf (Elt Ideal) ℓ) (c : Dev nD) (t : Fin grid0.N)

theorem idxs : ∀ t : Fin grid0.N, win0_0.index t = ![t.val / 4, 0, t.val % 4] ∧ win0_1.index t = ![t.val / 4, 0, 4 + t.val % 4]
    ∧ win0_2.index t = ![t.val / 4, 0, 8 + t.val % 4] ∧ win0_3.index t = ![t.val / 4, 0, t.val % 4] := by decide +kernel

/-- The batch element of a point. -/
def batchOf (t : Fin grid0.N) : Fin 4 := ⟨t / 4, by have := t.isLt; simp only [N_0] at this; omega⟩

/-- The head of lane `l` of a point. -/
def headOf (t : Fin grid0.N) (l : Fin 128) : Fin 8 := ⟨t % 4 * 2 + l / 64, by omega⟩

/-- The context tokens' arrays, one batch element after another. -/
def ctxGrid (x : Vec Ideal S1024x1536 .bf16) : Vec Ideal S4x256x1536 .bf16 := shapeCast S4x256x1536 x shapeCasts_S1024x1536_S4x256x1536

theorem ctx_eq : V m c main_v0 = ctxGrid (m ((c : Thread nD τ).loc main_arg0)) := by
  unfold V
  after_reads_simp
  rfl

theorem ctxGrid_at (x : Vec Ideal S1024x1536 .bf16) (b : Fin 4) (i : Fin 256) (f : Fin 1536) : ctxGrid x (ix3 b i f) = x (ix2 (ctxRow b i) f) := by
  pointwise [ctxGrid, ctxRow]

theorem blk0 (a : Fin 256) (l : Fin 128) : iblk m c 0 t (ix3 0 a l) = V m c main_v0 (ix3 (batchOf t) a ⟨t % 4 * 128 + l, by omega⟩) := by
  blk_ext [iblk, idxs t, batchOf]

theorem blk1 (a : Fin 256) (l : Fin 128) : iblk m c 1 t (ix3 0 a l) = V m c main_v0 (ix3 (batchOf t) a ⟨512 + (t % 4 * 128 + l), by omega⟩) := by
  blk_ext [iblk, idxs t, batchOf]

theorem blk2 (a : Fin 256) (l : Fin 128) : iblk m c 2 t (ix3 0 a l) = V m c main_v0 (ix3 (batchOf t) a ⟨1024 + (t % 4 * 128 + l), by omega⟩) := by
  blk_ext [iblk, idxs t, batchOf]

theorem q_read (i : Fin 256) (l : Fin 128) (d : Fin 64) : iblk m c 0 t (ix3 0 i (Cert.KernelIdeal.Value.lane ⟨l / 64, by omega⟩ d))
    = m ((c : Thread nD τ).loc main_arg0) (ix2 (ctxRow (batchOf t) i) (feat 0 (headOf t l) d)) := by
  rw [blk0, ctx_eq, ctxGrid_at]
  refine congrArg (fun z => m ((c : Thread nD τ).loc main_arg0) (ix2 _ z)) (Fin.ext ?_)
  show (t : ℕ) % 4 * 128 + (64 * (l / 64) + d) = 0 * 512 + (t % 4 * 2 + l / 64) * 64 + d
  omega

theorem k_read (j : Fin 256) (l : Fin 128) (d : Fin 64) : iblk m c 1 t (ix3 0 j (Cert.KernelIdeal.Value.lane ⟨l / 64, by omega⟩ d))
    = m ((c : Thread nD τ).loc main_arg0) (ix2 (ctxRow (batchOf t) j) (feat 1 (headOf t l) d)) := by
  rw [blk1, ctx_eq, ctxGrid_at]
  refine congrArg (fun z => m ((c : Thread nD τ).loc main_arg0) (ix2 _ z)) (Fin.ext ?_)
  show 512 + ((t : ℕ) % 4 * 128 + (64 * (l / 64) + d)) = 1 * 512 + (t % 4 * 2 + l / 64) * 64 + d
  omega

theorem v_read (j : Fin 256) (l : Fin 128) : iblk m c 2 t (ix3 0 j l)
    = m ((c : Thread nD τ).loc main_arg0) (ix2 (ctxRow (batchOf t) j) (feat 2 (headOf t l) ⟨l % 64, by omega⟩)) := by
  rw [blk2, ctx_eq, ctxGrid_at]
  refine congrArg (fun z => m ((c : Thread nD τ).loc main_arg0) (ix2 _ z)) (Fin.ext ?_)
  show 1024 + ((t : ℕ) % 4 * 128 + l) = 2 * 512 + (t % 4 * 2 + l / 64) * 64 + l % 64
  omega

theorem block_at (i : Fin 256) (l : Fin 128) : k0_pay1 (iblk m c 0 t) (iblk m c 1 t) (iblk m c 2 t) (ix3 0 i l)
    = ctxLate (m ((c : Thread nD τ).loc main_arg0)) (batchOf t) i ⟨t % 4 * 128 + l, by omega⟩ := by
  have e1 : (⟨((t : ℕ) % 4 * 128 + l) / 64, by omega⟩ : Fin 8) = headOf t l := Fin.ext (by simp only [headOf]; omega)
  have e2 : (⟨((t : ℕ) % 4 * 128 + l) % 64, by omega⟩ : Fin 64) = ⟨l % 64, by omega⟩ := Fin.ext (by simp only; omega)
  rw [pay1_eq, outOf_at]
  unfold ctxLate
  dsimp only
  rw [e1, e2]
  refine congrArg₂ lateRow (funext fun j => ?_) (funext fun j => v_read m c t j l)
  rw [head_at]
  exact Finset.sum_congr rfl fun d _ => congrArg₂ (· * ·) (congrArg (· * eighth) (q_read m c t i l d)) (k_read m c t j l d)

/-- What the kernel leaves in its result. -/
theorem final : (dats m 0 c).arrAt 3 (cfgs 0).N = fun j => ctxLate (m ((c : Thread nD τ).loc main_arg0)) (j 0) (j 1) (j 2) := by
  refine (dats m 0 c).arrAt_eq_of_covers 3 _ (by decide +kernel) fun t _ y => ?_
  blk_simp
  rw [after0_3]
  frame_out
  obtain ⟨z, i, l, rfl⟩ : ∃ (z : Fin 1) (i : Fin 256) (l : Fin 128), y = ix3 z i l := ⟨y 0, y 1, y 2, (ix3_eta y).symm⟩
  have hz : z = 0 := Subsingleton.elim _ _
  subst hz
  have e : ((View.whole main_v1).slice (win0_3.rect t)).emb (ix3 0 i l) = ix3 (batchOf t) i ⟨t % 4 * 128 + l, by omega⟩ := by
    blk_ext [idxs t, batchOf]
  rw [e]
  exact block_at m c t i l

end Cert.CtxIdeal.Value

end
-- ==== Proof.CtxR.lean ====
module

public import proofs.«01_k».proof.Proof.Gen.CtxRefIdeal.Read
public import proofs.«01_k».proof.Proof.MoreSpec

@[expose] public section

set_option maxRecDepth 16384

noncomputable section

open Idealize.ShloMosaic Idealize.ShloMosaic.TcCoe Idealize.SL.Sem

namespace Cert.CtxRefIdeal.Value

open Cert.CtxRefIdeal Cert.CtxRefIdeal.Read Cert.Layer

variable (x : Vec Ideal S1024x1536 .bf16)

theorem q_at (b : Fin 4) (i : Fin 256) (h : Fin 8) (d : Fin 64) : val_main_v9 x (ix4 b i h d) = x (ix2 (ctxRow b i) (feat 0 h d)) * eighth := by
  pointwise [val_main_v0, val_main_v1, val_main_v2, val_main_v5, val_main_cst, val_main_v8, val_main_v9, ctxRow, feat]
  rw [eighth_f32]

theorem k_at (b : Fin 4) (i : Fin 256) (h : Fin 8) (d : Fin 64) : val_main_v6 x (ix4 b i h d) = x (ix2 (ctxRow b i) (feat 1 h d)) := by
  pointwise [val_main_v0, val_main_v1, val_main_v3, val_main_v6, ctxRow, feat]
  exact congrArg (fun z => x (ix2 _ z)) (Fin.ext (Nat.add_assoc _ _ _).symm)

theorem v_at (b : Fin 4) (i : Fin 256) (h : Fin 8) (d : Fin 64) : val_main_v7 x (ix4 b i h d) = valC x b h d i := by
  pointwise [val_main_v0, val_main_v1, val_main_v4, val_main_v7, valC, ctxRow, feat]
  exact congrArg (fun z => x (ix2 _ z)) (Fin.ext (Nat.add_assoc _ _ _).symm)

theorem logit_at (b : Fin 4) (h : Fin 8) (i j : Fin 256) : val_main_v10 x (ix4 b h i j) = ctxLogit x b h i j := by
  pointwise [val_main_v10, q_at, k_at, ctxLogit]

theorem max_at (b : Fin 4) (h : Fin 8) (i : Fin 256) : val_main_v13 x (ix3 b h i) = Finset.univ.fold max ⊥ (ctxLogit x b h i) := by
  rw [val_main_v13_apply]
  pointwise [val_main_v11, val_main_v12, val_main_cst_0, val_main_cst_1, logit_at]
  rw [neg_inf]
  exact max_eq_right bot_le

theorem exp_at (b : Fin 4) (h : Fin 8) (i j : Fin 256) :
    val_main_v17 x (ix4 b h i j) = Ideal.exp (ctxLogit x b h i j - Finset.univ.fold max ⊥ (ctxLogit x b h i)) := by
  pointwise [val_main_v14, val_main_v15, val_main_v16, val_main_v17, max_at, logit_at]

theorem p_at (b : Fin 4) (h : Fin 8) (i j : Fin 256) :
    val_main_v21 x (ix4 b h i j) = Ideal.div (Ideal.exp (ctxLogit x b h i j - Finset.univ.fold max ⊥ (ctxLogit x b h i)))
      (∑ j, Ideal.exp (ctxLogit x b h i j - Finset.univ.fold max ⊥ (ctxLogit x b h i))) := by
  pointwise [val_main_v18, val_main_v19, val_main_v20, val_main_v21, val_main_cst_2, exp_at]

theorem dot_at (b : Fin 4) (h : Fin 8) (d : Fin 64) (i : Fin 256) : val_main_v22 x (ix4 b h d i) = softRow (ctxLogit x b h i) (valC x b h d) := by
  pointwise [val_main_v22, v_at, p_at, softRow]

theorem res_at (b : Fin 4) (i : Fin 256) (q : Fin 512) :
    val_main_v25 x (ix3 b i q) = softRow (ctxLogit x b ⟨q / 64, by omega⟩ i) (valC x b ⟨q / 64, by omega⟩ ⟨q % 64, by omega⟩) := by
  rw [← dot_at]
  pointwise [val_main_v23, val_main_v24, val_main_v25]

end Cert.CtxRefIdeal.Value

end
-- ==== Proof.Small.lean ====
module

public import proofs.«01_k».proof.Defs
public import proofs.«01_k».proof.Proof.ModK
public import proofs.«01_k».proof.Proof.ModR
public import proofs.«01_k».proof.Proof.Gen.ModRefIdeal.Run
public import proofs.«01_k».proof.Proof.Gen.ModIdeal
public import proofs.«01_k».proof.Proof.Gen.ModRefIdeal
public import proofs.«01_k».proof.Proof.HyPreK
public import proofs.«01_k».proof.Proof.HyPreR
public import proofs.«01_k».proof.Proof.Gen.HyPreRefIdeal.Run
public import proofs.«01_k».proof.Proof.Gen.HyPreIdeal
public import proofs.«01_k».proof.Proof.Gen.HyPreRefIdeal
public import proofs.«01_k».proof.Proof.CtxK
public import proofs.«01_k».proof.Proof.CtxR
public import proofs.«01_k».proof.Proof.Gen.CtxRefIdeal.Run
public import proofs.«01_k».proof.Proof.Gen.CtxIdeal
public import proofs.«01_k».proof.Proof.Gen.CtxRefIdeal
public import proofs.«01_k».proof.Proof.Attn

@[expose] public section

set_option maxRecDepth 16384

noncomputable section

open Idealize.ShloMosaic Idealize.ShloMosaic.TcCoe Idealize.SL.Sem

/-! The value claims of the three smaller calls: the modulation vectors, the short convolution of the Hyena layers, and the
    context tokens' attention over themselves. -/

namespace Cert.Layer

/-- The modulation vectors. -/
theorem algebraic_Mod : Cert.algebraic_ModIdeal_ModRefIdeal (hModIdeal := Cert.ModIdeal.Gen.facts) (hModRefIdeal := Cert.ModRefIdeal.Gen.facts) := by
  intro m ρ m' ρ' _ hag
  refine ⟨fun c => (Cert.ModIdeal.Gen.dats m 0 c).arrAt 3 Cert.ModIdeal.cfg0.N, Cert.ModIdeal.Value.run_blocks m ρ,
    (θ_run ..).mono (fun r h c => ⟨(h c).1.trans ?_, (h c).2⟩) (Cert.ModRefIdeal.Value.run m' ρ')⟩
  obtain ⟨e0, e1, e2⟩ := hag c
  refine Eq.trans ?_ (Cert.ModIdeal.Value.final m c).symm
  rw [Cert.ModRefIdeal.Read.val_main_v5_eq, e0, e1, e2]
  funext j
  refine (congrArg _ (ix3_eta j).symm).trans ?_
  exact Cert.ModRefIdeal.Value.res_at _ _ _ (j 0) (j 1) (j 2)

/-- The short convolution of the Hyena layers, with its gate. -/
theorem algebraic_HyPre : Cert.algebraic_HyPreIdeal_HyPreRefIdeal (hHyPreIdeal := Cert.HyPreIdeal.Gen.facts) (hHyPreRefIdeal := Cert.HyPreRefIdeal.Gen.facts) := by
  intro m ρ m' ρ' _ hag
  refine ⟨fun c => (Cert.HyPreIdeal.Gen.dats m 0 c).arrAt 4 Cert.HyPreIdeal.cfg0.N, fun c => (Cert.HyPreIdeal.Gen.dats m 0 c).arrAt 5 Cert.HyPreIdeal.cfg0.N,
    Cert.HyPreIdeal.Value.run_blocks m ρ,
    (θ_run ..).mono (fun r h c => ⟨(h c).1.trans ?_, (h c).2.1.trans ?_, (h c).2.2⟩) (Cert.HyPreRefIdeal.Value.run m' ρ')⟩
  all_goals obtain ⟨e0, e1⟩ := hag c
  · refine Eq.trans ?_ (Cert.HyPreIdeal.Value.final4 m c).symm
    rw [Cert.HyPreRefIdeal.Read.val_main_v25_eq, e0, e1]
    funext j
    rw [← ix2_eta j]
    exact Cert.HyPreRefIdeal.Value.res0_at _ _ (j 0) (j 1)
  · refine Eq.trans ?_ (Cert.HyPreIdeal.Value.final5 m c).symm
    rw [Cert.HyPreRefIdeal.Read.val_main_v27_eq, e0, e1]
    funext j
    rw [← ix2_eta j]
    exact Cert.HyPreRefIdeal.Value.res1_at _ _ (j 0) (j 1)

instance ctxPreFacts : Cert.Pre_finite_ctx_inputs.Facts := ⟨by decide, by decide⟩

section Finite

variable (x : Vec Ideal ⟨2, ![1024, 1536]⟩ .bf16) (hx : Cert.Pre_finite_ctx_inputs.fn (F := Ideal) x = fun _ => 1#1)

include hx in
theorem real_tok (i : Fin 1024) (f : Fin 1024) : ∃ r : ℝ, x (ix2 i ⟨f, by omega⟩) = r := by
  have h' := congrFun hx (ix2 i f)
  revert h'
  pointwise [Cert.Pre_finite_ctx_inputs.fn]
  intro h'
  rw [inf_bf16] at h'
  exact real_of_word _ h'

include hx in
theorem ctxLogit_real (b : Fin 4) (h : Fin 8) (i j : Fin 256) : ∃ s : ℝ, ctxLogit x b h i j = s := by
  choose u hu using fun d : Fin 64 => real_tok x hx (ctxRow b i) ⟨0 * 512 + h * 64 + d, by omega⟩
  choose v hv using fun d : Fin 64 => real_tok x hx (ctxRow b j) ⟨1 * 512 + h * 64 + d, by omega⟩
  refine ⟨∑ d, u d * (1 / 8) * v d, ?_⟩
  rw [coe_sum]
  refine Finset.sum_congr rfl fun d _ => ?_
  rw [EReal.coe_mul, EReal.coe_mul]
  exact congrArg₂ (· * ·) (congrArg (· * eighth) (hu d)) (hv d)

end Finite

/-- The context tokens' attention. -/
theorem algebraic_Ctx : Cert.algebraic_CtxIdeal_CtxRefIdeal_pre_finite_ctx_inputs (hCtxIdeal := Cert.CtxIdeal.Gen.facts)
    (hCtxRefIdeal := Cert.CtxRefIdeal.Gen.facts) (hPre_finite_ctx_inputs := ctxPreFacts) := by
  intro m ρ m' ρ' hp hag
  refine ⟨fun c => (Cert.CtxIdeal.Gen.dats m 0 c).arrAt 3 Cert.CtxIdeal.cfg0.N, Cert.CtxIdeal.Value.run_blocks m ρ,
    (θ_run ..).mono (fun r h c => ⟨(h c).1.trans ?_, (h c).2⟩) (Cert.CtxRefIdeal.Value.run m' ρ')⟩
  have e0 := hag c
  have h1 := hp c
  refine Eq.trans ?_ (Cert.CtxIdeal.Value.final m c).symm
  rw [Cert.CtxRefIdeal.Read.val_main_v25_eq, e0]
  funext j
  refine (congrArg _ (ix3_eta j).symm).trans ?_
  refine (Cert.CtxRefIdeal.Value.res_at _ (j 0) (j 1) (j 2)).trans ?_
  exact (lateRow_eq _ _ (ctxLogit_real _ h1 _ _ _)).symm

end Cert.Layer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InAb
public import proofs.«01_k».proof.Proof.Gen.InAb.Skeleton
public import proofs.«01_k».proof.Proof.Gen.InAb.Launch
public import proofs.«01_k».proof.Proof.Gen.InAb.Points
public import proofs.«01_k».proof.Proof.Gen.InAb.Frame
public import proofs.«01_k».proof.Proof.Gen.InAbIdeal
public import proofs.«01_k».proof.Proof.Gen.InAbIdeal.Skeleton
public import proofs.«01_k».proof.Proof.Gen.InAbIdeal.Launch
public import proofs.«01_k».proof.Proof.Gen.InAbIdeal.Points
public import proofs.«01_k».proof.Proof.Gen.InAbIdeal.Frame
public import proofs.«01_k».proof.Proof.Gen.InAbRefIdeal
public import proofs.«01_k».proof.Proof.Gen.InHy
public import proofs.«01_k».proof.Proof.Gen.InHy.Skeleton
public import proofs.«01_k».proof.Proof.Gen.InHy.Launch
public import proofs.«01_k».proof.Proof.Gen.InHy.Points
public import proofs.«01_k».proof.Proof.Gen.InHy.Frame
public import proofs.«01_k».proof.Proof.Gen.InHyIdeal
public import proofs.«01_k».proof.Proof.Gen.InHyIdeal.Skeleton
public import proofs.«01_k».proof.Proof.Gen.InHyIdeal.Launch
public import proofs.«01_k».proof.Proof.Gen.InHyIdeal.Points
public import proofs.«01_k».proof.Proof.Gen.InHyIdeal.Frame
public import proofs.«01_k».proof.Proof.Gen.InHyRefIdeal
public import proofs.«01_k».proof.Proof.Gen.OutHy
public import proofs.«01_k».proof.Proof.Gen.OutHy.Skeleton
public import proofs.«01_k».proof.Proof.Gen.OutHy.Launch
public import proofs.«01_k».proof.Proof.Gen.OutHy.Points
public import proofs.«01_k».proof.Proof.Gen.OutHy.Frame
public import proofs.«01_k».proof.Proof.Gen.OutHyIdeal
public import proofs.«01_k».proof.Proof.Gen.OutHyIdeal.Skeleton
public import proofs.«01_k».proof.Proof.Gen.OutHyIdeal.Launch
public import proofs.«01_k».proof.Proof.Gen.OutHyIdeal.Points
public import proofs.«01_k».proof.Proof.Gen.OutHyIdeal.Frame
public import proofs.«01_k».proof.Proof.Gen.OutHyRefIdeal
public import proofs.«01_k».proof.Proof.Gen.OutAb
public import proofs.«01_k».proof.Proof.Gen.OutAb.Skeleton
public import proofs.«01_k».proof.Proof.Gen.OutAb.Launch
public import proofs.«01_k».proof.Proof.Gen.OutAb.Points
public import proofs.«01_k».proof.Proof.Gen.OutAb.Frame
public import proofs.«01_k».proof.Proof.Gen.OutAbIdeal
public import proofs.«01_k».proof.Proof.Gen.OutAbIdeal.Skeleton
public import proofs.«01_k».proof.Proof.Gen.OutAbIdeal.Launch
public import proofs.«01_k».proof.Proof.Gen.OutAbIdeal.Points
public import proofs.«01_k».proof.Proof.Gen.OutAbIdeal.Frame
public import proofs.«01_k».proof.Proof.Gen.OutAbRefIdeal
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.HyPre
public import proofs.«01_k».proof.Proof.Gen.HyPre.Skeleton
public import proofs.«01_k».proof.Proof.Gen.HyPre.Launch
public import proofs.«01_k».proof.Proof.Gen.HyPre.Points
public import proofs.«01_k».proof.Proof.Gen.HyPre.Frame
public import proofs.«01_k».proof.Proof.Gen.HyPreIdeal
public import proofs.«01_k».proof.Proof.Gen.HyPreIdeal.Skeleton
public import proofs.«01_k».proof.Proof.Gen.HyPreIdeal.Launch
public import proofs.«01_k».proof.Proof.Gen.HyPreIdeal.Points
public import proofs.«01_k».proof.Proof.Gen.HyPreIdeal.Frame
public import proofs.«01_k».proof.Proof.Gen.HyPreRefIdeal
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.Pre_finite_logit_inputs
public import proofs.«01_k».proof.Proof.Gen.Pre_finite_ctx_inputs
public import proofs.«01_k».proof.Proof.Gen.KernelIdeal.Value
public import proofs.«01_k».proof.Proof.Gen.FfnIdeal.Value
public import proofs.«01_k».proof.Proof.Gen.InAbIdeal.Value
public import proofs.«01_k».proof.Proof.Gen.InHyIdeal.Value
public import proofs.«01_k».proof.Proof.Gen.OutHyIdeal.Value
public import proofs.«01_k».proof.Proof.Gen.OutAbIdeal.Value
public import proofs.«01_k».proof.Proof.Gen.ModIdeal.Value
public import proofs.«01_k».proof.Proof.Gen.HyPreIdeal.Value
public import proofs.«01_k».proof.Proof.Gen.CtxIdeal.Value
public import proofs.«01_k».proof.Proof.Gen.ReferenceIdeal.Read
public import proofs.«01_k».proof.Proof.Gen.FfnRefIdeal.Read
public import proofs.«01_k».proof.Proof.Gen.InAbRefIdeal.Read
public import proofs.«01_k».proof.Proof.Gen.InHyRefIdeal.Read
public import proofs.«01_k».proof.Proof.Gen.OutHyRefIdeal.Read
public import proofs.«01_k».proof.Proof.Gen.OutAbRefIdeal.Read
public import proofs.«01_k».proof.Proof.Gen.ModRefIdeal.Read
public import proofs.«01_k».proof.Proof.Gen.HyPreRefIdeal.Read
public import proofs.«01_k».proof.Proof.Gen.CtxRefIdeal.Read
public import proofs.«01_k».proof.Proof.Dense
public import proofs.«01_k».proof.Proof.Attn
public import proofs.«01_k».proof.Proof.Small
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.InAb.Gen.facts, Cert.InAbIdeal.Gen.facts, Cert.InAbRefIdeal.Gen.facts, Cert.InHy.Gen.facts, Cert.InHyIdeal.Gen.facts, Cert.InHyRefIdeal.Gen.facts, Cert.OutHy.Gen.facts, Cert.OutHyIdeal.Gen.facts, Cert.OutHyRefIdeal.Gen.facts, Cert.OutAb.Gen.facts, Cert.OutAbIdeal.Gen.facts, Cert.OutAbRefIdeal.Gen.facts, Cert.Mod.Gen.facts, Cert.ModIdeal.Gen.facts, Cert.ModRefIdeal.Gen.facts, Cert.HyPre.Gen.facts, Cert.HyPreIdeal.Gen.facts, Cert.HyPreRefIdeal.Gen.facts, Cert.Ctx.Gen.facts, Cert.CtxIdeal.Gen.facts, Cert.CtxRefIdeal.Gen.facts, Cert.Layer.preFacts, Cert.Layer.ctxPreFacts,
  fun m ρ _ => Cert.Kernel.Gen.frame m ρ,
  fun m ρ _ => Cert.KernelIdeal.Gen.frame m ρ,
  fun m ρ _ => Cert.KernelIdeal.Gen.frame m ρ,
  fun m ρ _ => (θ_run ..).mono (fun r h => ⟨fun c => (h c).2, sem_eq_zero_of_no_sems (by decide) r.2⟩) (Cert.ReferenceIdeal.Value.run m ρ),
  fun m ρ _ => (θ_run ..).mono (fun r h => ⟨fun c => (h c).2, sem_eq_zero_of_no_sems (by decide) r.2⟩) (Cert.ReferenceIdeal.Value.run m ρ),
  fun m ρ _ => Cert.Ffn.Gen.frame m ρ,
  fun m ρ _ => Cert.FfnIdeal.Gen.frame m ρ,
  fun m ρ _ => (θ_run ..).mono (fun r h => ⟨fun c => (h c).2, sem_eq_zero_of_no_sems (by decide) r.2⟩) (Cert.FfnRefIdeal.Value.run m ρ),
  fun m ρ _ => Cert.InAb.Gen.frame m ρ,
  fun m ρ _ => Cert.InAbIdeal.Gen.frame m ρ,
  fun m ρ _ => (θ_run ..).mono (fun r h => ⟨fun c => (h c).2.2, sem_eq_zero_of_no_sems (by decide) r.2⟩) (Cert.InAbRefIdeal.Value.run m ρ),
  fun m ρ _ => Cert.InHy.Gen.frame m ρ,
  fun m ρ _ => Cert.InHyIdeal.Gen.frame m ρ,
  fun m ρ _ => (θ_run ..).mono (fun r h => ⟨fun c => (h c).2, sem_eq_zero_of_no_sems (by decide) r.2⟩) (Cert.InHyRefIdeal.Value.run m ρ),
  fun m ρ _ => Cert.OutHy.Gen.frame m ρ,
  fun m ρ _ => Cert.OutHyIdeal.Gen.frame m ρ,
  fun m ρ _ => (θ_run ..).mono (fun r h => ⟨fun c => (h c).2, sem_eq_zero_of_no_sems (by decide) r.2⟩) (Cert.OutHyRefIdeal.Value.run m ρ),
  fun m ρ _ => Cert.OutAb.Gen.frame m ρ,
  fun m ρ _ => Cert.OutAbIdeal.Gen.frame m ρ,
  fun m ρ _ => (θ_run ..).mono (fun r h => ⟨fun c => (h c).2, sem_eq_zero_of_no_sems (by decide) r.2⟩) (Cert.OutAbRefIdeal.Value.run m ρ),
  fun m ρ _ => Cert.Mod.Gen.frame m ρ,
  fun m ρ _ => Cert.ModIdeal.Gen.frame m ρ,
  fun m ρ _ => (θ_run ..).mono (fun r h => ⟨fun c => (h c).2, sem_eq_zero_of_no_sems (by decide) r.2⟩) (Cert.ModRefIdeal.Value.run m ρ),
  fun m ρ _ => Cert.HyPre.Gen.frame m ρ,
  fun m ρ _ => Cert.HyPreIdeal.Gen.frame m ρ,
  fun m ρ _ => (θ_run ..).mono (fun r h => ⟨fun c => (h c).2.2, sem_eq_zero_of_no_sems (by decide) r.2⟩) (Cert.HyPreRefIdeal.Value.run m ρ),
  fun m ρ _ => Cert.Ctx.Gen.frame m ρ,
  fun m ρ _ => Cert.CtxIdeal.Gen.frame m ρ,
  fun m ρ _ => Cert.CtxIdeal.Gen.frame m ρ,
  fun m ρ _ => (θ_run ..).mono (fun r h => ⟨fun c => (h c).2, sem_eq_zero_of_no_sems (by decide) r.2⟩) (Cert.CtxRefIdeal.Value.run m ρ),
  fun m ρ _ => (θ_run ..).mono (fun r h => ⟨fun c => (h c).2, sem_eq_zero_of_no_sems (by decide) r.2⟩) (Cert.CtxRefIdeal.Value.run m ρ),
  IdealRules.named_const.statement Cert.KernelIdeal.κ "mask" .f32 0xF149F2CA#32 ⊥ rfl,
  Cert.Layer.algebraic_Attn,
  trivial,
  Cert.Layer.algebraic_Ffn,
  trivial,
  Cert.Layer.algebraic_InAb,
  trivial,
  Cert.Layer.algebraic_InHy,
  trivial,
  Cert.Layer.algebraic_OutHy,
  trivial,
  Cert.Layer.algebraic_OutAb,
  trivial,
  Cert.Layer.algebraic_Mod,
  trivial,
  Cert.Layer.algebraic_HyPre,
  trivial,
  Cert.Layer.algebraic_Ctx⟩

end Cert.Proof

end
